-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4194304 : Shape := ⟨1, ![4194304]⟩
abbrev S32x16 : Shape := ⟨2, ![32, 16]⟩
abbrev S2x32768 : Shape := ⟨2, ![2, 32768]⟩
abbrev S16 : Shape := ⟨1, ![16]⟩
abbrev S_ : Shape := ⟨0, ![]⟩
abbrev S1x32768 : Shape := ⟨2, ![1, 32768]⟩
abbrev S32768 : Shape := ⟨1, ![32768]⟩
abbrev S1x16 : Shape := ⟨2, ![1, 16]⟩

abbrev nBuf : Table → Nat
  | .hbm => 4
  | .local .scVector .vmem => 5
  | _ => 0

abbrev bufTy : (tb : Table) → Fin (nBuf tb) → BufTy
  | .hbm, ⟨0, _⟩ => ⟨S4194304, .i1⟩
  | .hbm, ⟨1, _⟩ => ⟨S4194304, .i32⟩
  | .hbm, ⟨2, _⟩ => ⟨S32x16, .i32⟩
  | .hbm, ⟨3, _⟩ => ⟨S4194304, .i32⟩
  | .local .scVector .vmem, ⟨0, _⟩ => ⟨S2x32768, .i32⟩
  | .local .scVector .vmem, ⟨1, _⟩ => ⟨S16, .i32⟩
  | .local .scVector .vmem, ⟨2, _⟩ => ⟨S32768, .i32⟩
  | .local .scVector .vmem, ⟨3, _⟩ => ⟨S32768, .i32⟩
  | .local .scVector .vmem, ⟨4, _⟩ => ⟨S32x16, .i32⟩
  | _, _ => ⟨S4194304, .i1⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev main_v2_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c131072_i32 : BitVec 32 := 131072#32
  let v2 : BitVec 32 := Scalar.muli v1 c131072_i32
  let v3 : BitVec 32 := Scalar.addi v2 c0_i32
  ![v3.toNat]
@[reducible] def k0_t1_loop : Scf.Loop 32 :=
  let c0_i32_9 : BitVec 32 := 0#32
  let c512_i32 : BitVec 32 := 512#32
  let v24 : BitVec 32 := Scalar.addi c0_i32_9 c512_i32
  let c1_i32_10 : BitVec 32 := 1#32
  ⟨c0_i32_9, v24, c1_i32_10⟩
def k0_off2 (k0_t1 : Fin k0_t1_loop.trips) : Fin 2 → Nat :=
  let c0_i32_40 : BitVec 32 := 0#32
  let v67 : Index := Scalar.indexCast c0_i32_40
  let c0_i32_9 : BitVec 32 := 0#32
  let c1_i32_10 : BitVec 32 := 1#32
  let arg8 : BitVec 32 := Scf.iv c0_i32_9 c1_i32_10 k0_t1
  let c4_i32 : BitVec 32 := 4#32
  let v65 : BitVec 32 := Scalar.muli arg8 c4_i32
  let c16_i32_39 : BitVec 32 := 16#32
  let v66 : BitVec 32 := Scalar.muli v65 c16_i32_39
  let v68 : Index := Scalar.indexCast v66
  ![0, v68.toNat]
def k0_off3 (k0_t1 : Fin k0_t1_loop.trips) (c1_i32_42 : BitVec 32) : Fin 2 → Nat :=
  let c0_i32_44 : BitVec 32 := 0#32
  let v73 : Index := Scalar.indexCast c0_i32_44
  let c0_i32_9 : BitVec 32 := 0#32
  let c1_i32_10 : BitVec 32 := 1#32
  let arg8 : BitVec 32 := Scf.iv c0_i32_9 c1_i32_10 k0_t1
  let c4_i32_41 : BitVec 32 := 4#32
  let v70 : BitVec 32 := Scalar.muli arg8 c4_i32_41
  let v71 : BitVec 32 := Scalar.addi v70 c1_i32_42
  let c16_i32_43 : BitVec 32 := 16#32
  let v72 : BitVec 32 := Scalar.muli v71 c16_i32_43
  let v74 : Index := Scalar.indexCast v72
  ![0, v74.toNat]
@[reducible] def k0_t2_loop : Scf.Loop 32 :=
  let c0_i32_18 : BitVec 32 := 0#32
  let c512_i32_19 : BitVec 32 := 512#32
  let v39 : BitVec 32 := Scalar.addi c0_i32_18 c512_i32_19
  let c1_i32_20 : BitVec 32 := 1#32
  ⟨c0_i32_18, v39, c1_i32_20⟩
def k0_off4 (k0_t2 : Fin k0_t2_loop.trips) : Fin 2 → Nat :=
  let c1_i32_40 : BitVec 32 := 1#32
  let v67 : Index := Scalar.indexCast c1_i32_40
  let c0_i32_18 : BitVec 32 := 0#32
  let c1_i32_20 : BitVec 32 := 1#32
  let arg8 : BitVec 32 := Scf.iv c0_i32_18 c1_i32_20 k0_t2
  let c4_i32 : BitVec 32 := 4#32
  let v65 : BitVec 32 := Scalar.muli arg8 c4_i32
  let c16_i32_39 : BitVec 32 := 16#32
  let v66 : BitVec 32 := Scalar.muli v65 c16_i32_39
  let v68 : Index := Scalar.indexCast v66
  ![1, v68.toNat]
def k0_off5 (k0_t2 : Fin k0_t2_loop.trips) (c1_i32_42 : BitVec 32) : Fin 2 → Nat :=
  let c1_i32_44 : BitVec 32 := 1#32
  let v73 : Index := Scalar.indexCast c1_i32_44
  let c0_i32_18 : BitVec 32 := 0#32
  let c1_i32_20 : BitVec 32 := 1#32
  let arg8 : BitVec 32 := Scf.iv c0_i32_18 c1_i32_20 k0_t2
  let c4_i32_41 : BitVec 32 := 4#32
  let v70 : BitVec 32 := Scalar.muli arg8 c4_i32_41
  let v71 : BitVec 32 := Scalar.addi v70 c1_i32_42
  let c16_i32_43 : BitVec 32 := 16#32
  let v72 : BitVec 32 := Scalar.muli v71 c16_i32_43
  let v74 : Index := Scalar.indexCast v72
  ![1, v74.toNat]
@[reducible] def k0_t3_loop : Scf.Loop 32 :=
  let c0_i32_28 : BitVec 32 := 0#32
  let c512_i32_29 : BitVec 32 := 512#32
  let v54 : BitVec 32 := Scalar.addi c0_i32_28 c512_i32_29
  let c1_i32_30 : BitVec 32 := 1#32
  ⟨c0_i32_28, v54, c1_i32_30⟩
def k0_off6 (k0_t3 : Fin k0_t3_loop.trips) : Fin 2 → Nat :=
  let c0_i32_40 : BitVec 32 := 0#32
  let v67 : Index := Scalar.indexCast c0_i32_40
  let c0_i32_28 : BitVec 32 := 0#32
  let c1_i32_30 : BitVec 32 := 1#32
  let arg8 : BitVec 32 := Scf.iv c0_i32_28 c1_i32_30 k0_t3
  let c4_i32 : BitVec 32 := 4#32
  let v65 : BitVec 32 := Scalar.muli arg8 c4_i32
  let c16_i32_39 : BitVec 32 := 16#32
  let v66 : BitVec 32 := Scalar.muli v65 c16_i32_39
  let v68 : Index := Scalar.indexCast v66
  ![0, v68.toNat]
def k0_off7 (k0_t3 : Fin k0_t3_loop.trips) (c1_i32_42 : BitVec 32) : Fin 2 → Nat :=
  let c0_i32_44 : BitVec 32 := 0#32
  let v73 : Index := Scalar.indexCast c0_i32_44
  let c0_i32_28 : BitVec 32 := 0#32
  let c1_i32_30 : BitVec 32 := 1#32
  let arg8 : BitVec 32 := Scf.iv c0_i32_28 c1_i32_30 k0_t3
  let c4_i32_41 : BitVec 32 := 4#32
  let v70 : BitVec 32 := Scalar.muli arg8 c4_i32_41
  let v71 : BitVec 32 := Scalar.addi v70 c1_i32_42
  let c16_i32_43 : BitVec 32 := 16#32
  let v72 : BitVec 32 := Scalar.muli v71 c16_i32_43
  let v74 : Index := Scalar.indexCast v72
  ![0, v74.toNat]
@[reducible] def k0_t4_loop : Scf.Loop 32 :=
  let c0_i32_35 : BitVec 32 := 0#32
  let c512_i32_36 : BitVec 32 := 512#32
  let v62 : BitVec 32 := Scalar.addi c0_i32_35 c512_i32_36
  let c1_i32_37 : BitVec 32 := 1#32
  ⟨c0_i32_35, v62, c1_i32_37⟩
def k0_off8 (k0_t4 : Fin k0_t4_loop.trips) : Fin 2 → Nat :=
  let c1_i32_40 : BitVec 32 := 1#32
  let v67 : Index := Scalar.indexCast c1_i32_40
  let c0_i32_35 : BitVec 32 := 0#32
  let c1_i32_37 : BitVec 32 := 1#32
  let arg8 : BitVec 32 := Scf.iv c0_i32_35 c1_i32_37 k0_t4
  let c4_i32 : BitVec 32 := 4#32
  let v65 : BitVec 32 := Scalar.muli arg8 c4_i32
  let c16_i32_39 : BitVec 32 := 16#32
  let v66 : BitVec 32 := Scalar.muli v65 c16_i32_39
  let v68 : Index := Scalar.indexCast v66
  ![1, v68.toNat]
def k0_off9 (k0_t4 : Fin k0_t4_loop.trips) (c1_i32_42 : BitVec 32) : Fin 2 → Nat :=
  let c1_i32_44 : BitVec 32 := 1#32
  let v73 : Index := Scalar.indexCast c1_i32_44
  let c0_i32_35 : BitVec 32 := 0#32
  let c1_i32_37 : BitVec 32 := 1#32
  let arg8 : BitVec 32 := Scf.iv c0_i32_35 c1_i32_37 k0_t4
  let c4_i32_41 : BitVec 32 := 4#32
  let v70 : BitVec 32 := Scalar.muli arg8 c4_i32_41
  let v71 : BitVec 32 := Scalar.addi v70 c1_i32_42
  let c16_i32_43 : BitVec 32 := 16#32
  let v72 : BitVec 32 := Scalar.muli v71 c16_i32_43
  let v74 : Index := Scalar.indexCast v72
  ![1, v74.toNat]
def k0_off10 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_39_r0 : BitVec 32 := 0#32
  ![v1.toNat, 0]
abbrev grid1 : Pipeline.Grid := ⟨2, ![2, 16], ![false, false]⟩

@[reducible] def k1_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k1_off1 (k1_t1 : Fin k1_t1_loop.trips) : Fin 2 → Nat :=
  let c0_i32_0 : BitVec 32 := 0#32
  let c1_i32 : BitVec 32 := 1#32
  let arg8 : BitVec 32 := Scf.iv c0_i32_0 c1_i32 k1_t1
  let v14 : Index := Scalar.indexCast arg8
  let c0 : Index := 0#32
  ![v14.toNat, 0]
@[reducible] def k1_t2_loop : Scf.Loop 32 :=
  let c0_i32_3 : BitVec 32 := 0#32
  let c4_i32 : BitVec 32 := 4#32
  let v10 : BitVec 32 := Scalar.addi c0_i32_3 c4_i32
  let c1_i32_4 : BitVec 32 := 1#32
  ⟨c0_i32_3, v10, c1_i32_4⟩
def k1_off2 (i : grid1.Coords) (k1_t2 : Fin k1_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c131072_i32 : BitVec 32 := 131072#32
  let v2 : BitVec 32 := Scalar.muli v1 c131072_i32
  let c0_i32_3 : BitVec 32 := 0#32
  let c1_i32_4 : BitVec 32 := 1#32
  let arg8 : BitVec 32 := Scf.iv c0_i32_3 c1_i32_4 k1_t2
  let c32768_i32 : BitVec 32 := 32768#32
  let v12 : BitVec 32 := Scalar.muli arg8 c32768_i32
  let v13 : BitVec 32 := Scalar.addi v2 v12
  ![v13.toNat]
@[reducible] def k1_t3_loop : Scf.Loop 32 :=
  let c0_i32_6 : BitVec 32 := 0#32
  let c128_i32 : BitVec 32 := 128#32
  let v14 : BitVec 32 := Scalar.addi c0_i32_6 c128_i32
  let c1_i32_7 : BitVec 32 := 1#32
  ⟨c0_i32_6, v14, c1_i32_7⟩
def k1_off3 (k1_t3 : Fin k1_t3_loop.trips) (c0_i32_11 : BitVec 32) : Fin 1 → Nat :=
  let c0_i32_6 : BitVec 32 := 0#32
  let c1_i32_7 : BitVec 32 := 1#32
  let arg10 : BitVec 32 := Scf.iv c0_i32_6 c1_i32_7 k1_t3
  let c4_i32_10 : BitVec 32 := 4#32
  let v18 : BitVec 32 := Scalar.muli arg10 c4_i32_10
  let v19 : BitVec 32 := Scalar.addi v18 c0_i32_11
  let c4_i32_12 : BitVec 32 := 4#32
  let v20 : BitVec 32 := Scalar.muli v19 c4_i32_12
  let c16_i32_13 : BitVec 32 := 16#32
  let v21 : BitVec 32 := Scalar.muli v20 c16_i32_13
  let v22 : Index := Scalar.indexCast v21
  ![v22.toNat]
def k1_off4 (k1_t3 : Fin k1_t3_loop.trips) (c0_i32_11 : BitVec 32) (c1_i32_15 : BitVec 32) : Fin 1 → Nat :=
  let c0_i32_6 : BitVec 32 := 0#32
  let c1_i32_7 : BitVec 32 := 1#32
  let arg10 : BitVec 32 := Scf.iv c0_i32_6 c1_i32_7 k1_t3
  let c4_i32_10 : BitVec 32 := 4#32
  let v18 : BitVec 32 := Scalar.muli arg10 c4_i32_10
  let v19 : BitVec 32 := Scalar.addi v18 c0_i32_11
  let c4_i32_14 : BitVec 32 := 4#32
  let v24 : BitVec 32 := Scalar.muli v19 c4_i32_14
  let v25 : BitVec 32 := Scalar.addi v24 c1_i32_15
  let c16_i32_16 : BitVec 32 := 16#32
  let v26 : BitVec 32 := Scalar.muli v25 c16_i32_16
  let v27 : Index := Scalar.indexCast v26
  ![v27.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Reference.lean ====
abbrev S4194304 : Shape := ⟨1, ![4194304]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4194304, .i1⟩
  | .hbm, ⟨1, _⟩ => ⟨S4194304, .i32⟩
  | .hbm, ⟨2, _⟩ => ⟨S_, .i32⟩
  | .hbm, ⟨3, _⟩ => ⟨S_, .i32⟩
  | .hbm, ⟨4, _⟩ => ⟨S4194304, .i32⟩
  | .hbm, ⟨5, _⟩ => ⟨S_, .i32⟩
  | .hbm, ⟨6, _⟩ => ⟨S4194304, .i32⟩
  | .hbm, ⟨7, _⟩ => ⟨S4194304, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4194304, .i32⟩
  | .hbm, ⟨12, _⟩ => ⟨S4194304, .i32⟩
  | .hbm, ⟨13, _⟩ => ⟨S_, .i32⟩
  | .hbm, ⟨14, _⟩ => ⟨S4194304, .i32⟩
  | .hbm, ⟨15, _⟩ => ⟨S4194304, .i32⟩
  | _, _ => ⟨S4194304, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_c : Ref sig .tc := ⟨.hbm, 2, rfl⟩
abbrev main_call0_call0_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_c_1 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Math.lean ====
/-
  The arithmetic of a masked prefix count, on natural numbers and on 32-bit words: counting the ones of a 0/1 sequence up to a
  position, the same count taken lane by lane (every sixteenth position), the running sum of sixteen lanes, and four counts of at most
  forty-eight kept in the four bytes of one word. Nothing here names a program.
-/
module

public import Idealize.ShloMosaic.PureOps
public import Idealize.ShloMosaic.Lib.ValueIdxCore
public import Mathlib.Algebra.BigOperators.Intervals
public import Mathlib.Algebra.Order.BigOperators.Group.Finset
public import Mathlib.Tactic.Ring

@[expose] public section

namespace Cert.Proof.Count

open Idealize.ShloMosaic Idealize.ShloMosaic.ValueIdx
open scoped BigOperators

/-! ## Counts -/

/-- The sum of the first `n` terms of `b`. -/
def upTo (b : ℕ → ℕ) (n : ℕ) : ℕ := ∑ j ∈ Finset.range n, b j

/-- The sum of `n` terms of `b` sixteen apart, the first at `o + l`. -/
def lane (b : ℕ → ℕ) (o n l : ℕ) : ℕ := ∑ k ∈ Finset.range n, b (o + 16 * k + l)

theorem upTo_succ (b : ℕ → ℕ) (n : ℕ) : upTo b (n + 1) = upTo b n + b n := Finset.sum_range_succ _ _

theorem upTo_add (b : ℕ → ℕ) (n k : ℕ) : upTo b (n + k) = upTo b n + ∑ j ∈ Finset.range k, b (n + j) :=
  Finset.sum_range_add _ _ _

theorem upTo_le (b : ℕ → ℕ) (hb : ∀ j, b j ≤ 1) (n : ℕ) : upTo b n ≤ n := by
  refine (Finset.sum_le_sum fun j _ => hb j).trans ?_
  simp

theorem lane_zero (b : ℕ → ℕ) (o l : ℕ) : lane b o 0 l = 0 := rfl

theorem lane_succ (b : ℕ → ℕ) (o n l : ℕ) : lane b o (n + 1) l = lane b o n l + b (o + 16 * n + l) := Finset.sum_range_succ _ _

/-- Four more terms. -/
theorem lane_four (b : ℕ → ℕ) (o n l : ℕ) :
    lane b o (4 * (n + 1)) l
      = lane b o (4 * n) l + (b (o + 64 * n + l) + b (o + 64 * n + 16 + l) + (b (o + 64 * n + 32 + l) + b (o + 64 * n + 48 + l))) := by
  rw [show 4 * (n + 1) = 4 * n + 1 + 1 + 1 + 1 by ring, lane_succ, lane_succ, lane_succ, lane_succ,
    show o + 16 * (4 * n) + l = o + 64 * n + l by ring, show o + 16 * (4 * n + 1) + l = o + 64 * n + 16 + l by ring,
    show o + 16 * (4 * n + 1 + 1) + l = o + 64 * n + 32 + l by ring, show o + 16 * (4 * n + 1 + 1 + 1) + l = o + 64 * n + 48 + l by ring]
  ring

/-- A lane's terms in two stretches. -/
theorem lane_add (b : ℕ → ℕ) (o n k l : ℕ) : lane b o (n + k) l = lane b o n l + lane b (o + 16 * n) k l := by
  unfold lane
  rw [Finset.sum_range_add]
  exact congrArg _ (Finset.sum_congr rfl fun j _ => congrArg b (by ring))

/-- The sixteen lanes together are the whole stretch. -/
theorem sum_lane (b : ℕ → ℕ) (o n : ℕ) : upTo b o + ∑ l ∈ Finset.range 16, lane b o n l = upTo b (o + 16 * n) := by
  induction n with
  | zero => simp [lane]
  | succ n ih =>
    rw [show o + 16 * (n + 1) = o + 16 * n + 16 by ring, upTo_add, ← ih, Nat.add_assoc, ← Finset.sum_add_distrib]
    exact congrArg _ (Finset.sum_congr rfl fun l _ => lane_succ b o n l)

/-- Lane by lane from the start of the sequence, over its first `131072 * w` terms. -/
theorem sum_lane_tile (b : ℕ → ℕ) (w : ℕ) : ∑ l ∈ Finset.range 16, lane b 0 (8192 * w) l = upTo b (131072 * w) := by
  have h := sum_lane b 0 (8192 * w)
  rw [show 0 + 16 * (8192 * w) = 131072 * w by ring] at h
  rw [← h]; simp [upTo]

/-! ## Words -/

theorem ofNat_add' (a b : ℕ) : BitVec.ofNat 32 a + BitVec.ofNat 32 b = BitVec.ofNat 32 (a + b) := (BitVec.ofNat_add a b).symm

/-- The word a count `n` of ones up to and at a position leaves there: one less, no less than zero, at most `2097151`. -/
def outWord (n : ℕ) : BitVec 32 := BitVec.ofNat 32 (min (n - 1) 2097151)

/-- The same word as the programs take it: a signed maximum with zero, then a signed minimum with `2097151`. -/
theorem clamp_eq (n : ℕ) (hn : n ≤ 4194304) :
    IntOp.minsi (IntOp.maxsi (BitVec.ofNat 32 n - 1#32) 0#32) 2097151#32 = outWord n := by
  unfold outWord IntOp.minsi IntOp.maxsi
  rcases Nat.eq_zero_or_pos n with rfl | hp
  · decide
  have e : BitVec.ofNat 32 n - 1#32 = BitVec.ofNat 32 (n - 1) := by
    apply BitVec.eq_of_toNat_eq
    rw [BitVec.toNat_sub, BitVec.toNat_ofNat, BitVec.toNat_ofNat, BitVec.toNat_ofNat]
    omega
  rw [e]
  have ti : (BitVec.ofNat 32 (n - 1)).toInt = (n - 1 : ℕ) := by
    rw [BitVec.toInt_eq_toNat_of_lt] <;> rw [BitVec.toNat_ofNat, Nat.mod_eq_of_lt (by omega)]
    omega
  have h0 : (0#32 : BitVec 32).toInt = 0 := by decide
  have h1 : (2097151#32 : BitVec 32).toInt = 2097151 := by decide
  by_cases hz : n - 1 = 0
  · rw [hz]; decide
  · have hpos : (0#32 : BitVec 32).slt (BitVec.ofNat 32 (n - 1)) = true := by rw [BitVec.slt_iff_toInt_lt, ti, h0]; omega
    have hneg : (BitVec.ofNat 32 (n - 1)).slt 0#32 = false := by
      rw [Bool.eq_false_iff, Ne, BitVec.slt_iff_toInt_lt, ti, h0]; omega
    simp only [hpos, hneg, if_true, Bool.false_eq_true, if_false]
    by_cases hb : n - 1 < 2097151
    · rw [if_pos (by rw [BitVec.slt_iff_toInt_lt, ti, h1]; omega), Nat.min_eq_left (by omega)]
    · rw [if_neg (by rw [BitVec.slt_iff_toInt_lt, ti, h1]; omega), Nat.min_eq_right (by omega)]

/-- The host program's order of the same two operations' operands. -/
theorem clamp_host (n : ℕ) (hn : n ≤ 4194304) :
    IntOp.minsi 2097151#32 (IntOp.maxsi 0#32 (BitVec.ofNat 32 n - 1#32)) = outWord n := by
  rw [← clamp_eq n hn]
  have hmax : ∀ x : BitVec 32, IntOp.maxsi 0#32 x = IntOp.maxsi x 0#32 := by
    intro x; unfold IntOp.maxsi
    simp only [BitVec.slt_iff_toInt_lt]
    split <;> split <;> first | rfl | omega | exact BitVec.eq_of_toInt_eq (by omega)
  have hmin : ∀ x : BitVec 32, IntOp.minsi 2097151#32 x = IntOp.minsi x 2097151#32 := by
    intro x; unfold IntOp.minsi
    simp only [BitVec.slt_iff_toInt_lt]
    split <;> split <;> first | rfl | omega | exact BitVec.eq_of_toInt_eq (by omega)
  rw [hmax, hmin]

/-! ## The running sum of sixteen lanes -/

theorem foldl_words (v : ℕ → ℕ) (g : Fin 16 → BitVec 32) (hg : ∀ k, g k = BitVec.ofNat 32 (v k.val)) (L : List (Fin 16)) (a : ℕ) :
    L.foldl (fun r k => ScanKind.sum.step r (g k)) (BitVec.ofNat 32 a) = BitVec.ofNat 32 (a + (L.map fun k => v k.val).sum) := by
  induction L generalizing a with
  | nil => simp
  | cons k L ih =>
    rw [List.foldl_cons, show ScanKind.sum.step (BitVec.ofNat 32 a) (g k) = BitVec.ofNat 32 (a + v k.val) from by
      rw [hg]; exact ofNat_add' _ _, ih]
    simp [Nat.add_assoc]

theorem filtered_sum (v : ℕ → ℕ) (l : Fin 16) :
    v 0 + (((List.finRange 16).filter fun k => decide (0 < k.val ∧ k.val ≤ l.val)).map fun k : Fin 16 => v k.val).sum
      = ∑ k ∈ Finset.range (l.val + 1), v k := by
  fin_cases l <;> simp [List.finRange, List.filter, Finset.sum_range_succ] <;> try ring

/-- The running sum of sixteen words that hold `v 0 … v 15`. -/
theorem scan_sum (x : IVec (⟨1, ![16]⟩ : Shape) 32) (v : ℕ → ℕ) (hx : ∀ k : Fin 16, x (ix1 k) = BitVec.ofNat 32 (v k.val)) (l : Fin 16) :
    scan .sum x (ix1 l) = BitVec.ofNat 32 (∑ k ∈ Finset.range (l.val + 1), v k) := by
  have hl : ∀ k : Fin 16, (Shape.ofLane k : (⟨1, ![16]⟩ : Shape).Idx) = ix1 k := fun k => by
    funext a; match a with | ⟨0, _⟩ => rfl
  rw [← filtered_sum]
  unfold scan
  refine Eq.trans ?_ (foldl_words v (fun k => x (Shape.ofLane k)) (fun k => by rw [hl]; exact hx k) _ (v 0))
  show List.foldl _ (x (Shape.ofLane (0 : Fin 16))) _ = _
  rw [show x (Shape.ofLane (0 : Fin 16)) = BitVec.ofNat 32 (v 0) from by rw [hl]; exact hx 0]
  rfl

/-! ## Four counts in one word -/

/-- Four numbers in the four bytes of one, the first lowest. -/
def pack (a b c d : ℕ) : ℕ := a + 256 * b + 65536 * c + 16777216 * d

theorem pack_words (a b c d : ℕ) :
    (IntOp.addi (IntOp.addi (BitVec.ofNat 32 a) (IntOp.shli .vector (BitVec.ofNat 32 b) 8#32))
      (IntOp.addi (IntOp.shli .vector (BitVec.ofNat 32 c) 16#32) (IntOp.shli .vector (BitVec.ofNat 32 d) 24#32)))
      = BitVec.ofNat 32 (pack a b c d) := by
  have sh : ∀ (x n : ℕ), n < 32 → IntOp.shli .vector (BitVec.ofNat 32 x) (BitVec.ofNat 32 n) = BitVec.ofNat 32 (2 ^ n * x) := by
    intro x n hn
    have hnn : (BitVec.ofNat 32 n).toNat = n := by rw [BitVec.toNat_ofNat]; exact Nat.mod_eq_of_lt (by omega)
    unfold IntOp.shli
    rw [hnn, if_pos hn, BitVec.shiftLeft_eq', hnn]
    apply BitVec.eq_of_toNat_eq
    rw [BitVec.toNat_shiftLeft, BitVec.toNat_ofNat, BitVec.toNat_ofNat, Nat.shiftLeft_eq, Nat.mod_mul_mod, Nat.mul_comm]
  rw [show (8#32 : BitVec 32) = BitVec.ofNat 32 8 from rfl, show (16#32 : BitVec 32) = BitVec.ofNat 32 16 from rfl,
    show (24#32 : BitVec 32) = BitVec.ofNat 32 24 from rfl, sh b 8 (by decide), sh c 16 (by decide), sh d 24 (by decide)]
  unfold IntOp.addi pack
  rw [ofNat_add', ofNat_add', ofNat_add']
  congr 1
  norm_num
  ring

theorem sum_pack (f0 f1 f2 f3 : ℕ → ℕ) (n : ℕ) :
    ∑ k ∈ Finset.range n, pack (f0 k) (f1 k) (f2 k) (f3 k)
      = pack (∑ k ∈ Finset.range n, f0 k) (∑ k ∈ Finset.range n, f1 k) (∑ k ∈ Finset.range n, f2 k) (∑ k ∈ Finset.range n, f3 k) := by
  unfold pack
  rw [Finset.sum_add_distrib, Finset.sum_add_distrib, Finset.sum_add_distrib, Finset.mul_sum, Finset.mul_sum, Finset.mul_sum]

theorem pack_lt {a b c d : ℕ} (ha : a ≤ 48) (hb : b ≤ 48) (hc : c ≤ 48) (hd : d ≤ 48) : pack a b c d < 2147483648 := by
  unfold pack; omega

theorem toNat_pack {a b c d : ℕ} (ha : a ≤ 48) (hb : b ≤ 48) (hc : c ≤ 48) (hd : d ≤ 48) :
    (BitVec.ofNat 32 (pack a b c d)).toNat = pack a b c d := by
  rw [BitVec.toNat_ofNat]; exact Nat.mod_eq_of_lt (by have := pack_lt ha hb hc hd; omega)

/-- An arithmetic shift right of a word below `2 ^ 31`, at either unit. -/
theorem shrsi_ofNat (u : ArithUnit) (x n : ℕ) (hx : x < 2147483648) (hn : n < 32) :
    IntOp.shrsi u (BitVec.ofNat 32 x) (BitVec.ofNat 32 n) = BitVec.ofNat 32 (x / 2 ^ n) := by
  have hnn : (BitVec.ofNat 32 n).toNat = n := by rw [BitVec.toNat_ofNat]; exact Nat.mod_eq_of_lt (by omega)
  have hxx : (BitVec.ofNat 32 x).toNat = x := by rw [BitVec.toNat_ofNat]; exact Nat.mod_eq_of_lt (by omega)
  unfold IntOp.shrsi
  rw [hnn, if_pos hn, BitVec.sshiftRight', hnn]
  rw [BitVec.sshiftRight_eq_of_msb_false (by rw [BitVec.msb_eq_decide, hxx]; simp; omega)]
  apply BitVec.eq_of_toNat_eq
  rw [BitVec.toNat_ushiftRight, hxx, Nat.shiftRight_eq_div_pow, BitVec.toNat_ofNat, Nat.mod_eq_of_lt]
  exact lt_of_le_of_lt (Nat.div_le_self _ _) (by omega)

theorem andi_255 (x : ℕ) (hx : x < 2147483648) : IntOp.andi (BitVec.ofNat 32 x) 255#32 = BitVec.ofNat 32 (x % 256) := by
  unfold IntOp.andi
  apply BitVec.eq_of_toNat_eq
  rw [BitVec.toNat_and, show (255#32 : BitVec 32).toNat = 2 ^ 8 - 1 from rfl, Nat.and_two_pow_sub_one_eq_mod, BitVec.toNat_ofNat, BitVec.toNat_ofNat]
  omega

section Bytes
variable {a b c d : ℕ} (ha : a ≤ 48) (hb : b ≤ 48) (hc : c ≤ 48) (hd : d ≤ 48)
include ha hb hc hd

/-- The bytes of a packed word, as the programs read them out. -/
theorem byte0 : IntOp.andi (BitVec.ofNat 32 (pack a b c d)) 255#32 = BitVec.ofNat 32 a := by
  rw [andi_255 _ (pack_lt ha hb hc hd)]; congr 1; unfold pack; omega
theorem byte1 (u : ArithUnit) : IntOp.andi (IntOp.shrsi u (BitVec.ofNat 32 (pack a b c d)) 8#32) 255#32 = BitVec.ofNat 32 b := by
  have h := pack_lt ha hb hc hd
  rw [show (8#32 : BitVec 32) = BitVec.ofNat 32 8 from rfl, shrsi_ofNat u _ _ h (by decide), andi_255 _ (lt_of_le_of_lt (Nat.div_le_self _ _) h)]
  congr 1; unfold pack; omega
theorem byte2 (u : ArithUnit) : IntOp.andi (IntOp.shrsi u (BitVec.ofNat 32 (pack a b c d)) 16#32) 255#32 = BitVec.ofNat 32 c := by
  have h := pack_lt ha hb hc hd
  rw [show (16#32 : BitVec 32) = BitVec.ofNat 32 16 from rfl, shrsi_ofNat u _ _ h (by decide), andi_255 _ (lt_of_le_of_lt (Nat.div_le_self _ _) h)]
  congr 1; unfold pack; omega
theorem byte3 (u : ArithUnit) : IntOp.shrsi u (BitVec.ofNat 32 (pack a b c d)) 24#32 = BitVec.ofNat 32 d := by
  have h := pack_lt ha hb hc hd
  rw [show (24#32 : BitVec 32) = BitVec.ofNat 32 24 from rfl, shrsi_ofNat u _ _ h (by decide)]
  congr 1; unfold pack; omega

end Bytes

/-- A packed word times `0x01010100`: each byte the sum of the lower ones. -/
theorem pack_mul {a b c d : ℕ} :
    IntOp.muli (BitVec.ofNat 32 (pack a b c d)) 16843008#32 = BitVec.ofNat 32 (pack 0 a (a + b) (a + b + c)) := by
  unfold IntOp.muli
  rw [show (16843008#32 : BitVec 32) = BitVec.ofNat 32 16843008 from rfl, ← BitVec.ofNat_mul]
  apply BitVec.eq_of_toNat_eq
  rw [BitVec.toNat_ofNat, BitVec.toNat_ofNat]
  unfold pack; omega

end Cert.Proof.Count
-- ==== Proof.Setup.lean ====
/-
  The masked prefix count on the SparseCores: what the proof's parts share. The program as the launch theorem sees it; the four arrays
  and what each holds at each point (`X`, the mask widened to words; `Sums`, each tile's sixteen lane sums; `Out`, the clamped running
  count); how each array is cut among the thirty-two tiles; and what the two calls' handshakes carry.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Transfers
public import Idealize.ShloMosaic.Lib.Tactic
public import proofs.«01_k».proof.Proof.Gen.KernelIdeal
public import proofs.«01_k».proof.Proof.Gen.KernelIdeal.Skeleton
public import proofs.«01_k».proof.Proof.Math

@[expose] public section

noncomputable section

namespace Cert.Proof.Count

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## The arrays and what they hold -/

variable (m : (ℓ : Loc nD τ sig) → Buf (Elt F) ℓ) (ρ : Dev nD → PrngReg)

/-- The mask, the mask as words, the lane sums and the result, as locations of device `d`. -/
abbrev xLoc (d : Dev nD) : Loc nD τ sig := (SparseCore.T d).loc main_arg0
abbrev vLoc (d : Dev nD) : Loc nD τ sig := (SparseCore.T d).loc main_v0
abbrev sLoc (d : Dev nD) : Loc nD τ sig := (SparseCore.T d).loc main_v1
abbrev oLoc (d : Dev nD) : Loc nD τ sig := (SparseCore.T d).loc main_v2

/-- The mask at position `j` as a number, zero past its end. -/
def bit (d : Dev nD) (j : ℕ) : ℕ :=
  if h : j < 4194304 then ((m (xLoc d) : IVec S4194304 1) (ix1 ⟨j, h⟩)).toNat else 0

theorem bit_le (d : Dev nD) (j : ℕ) : bit m d j ≤ 1 := by
  unfold bit; split
  · have := ((m (xLoc d) : IVec S4194304 1) (ix1 ⟨j, by assumption⟩)).isLt; omega
  · exact Nat.zero_le _

/-- What the mask's copy in words holds. -/
def X (d : Dev nD) : Buf (Elt F) (vLoc d) := fun p : S4194304.Idx => BitVec.ofNat 32 (bit m d (p 0).val)
/-- What the lane sums' array holds after the first call: row `w`'s lane `l` counts every sixteenth position of tile `w`'s share from
    the `l`-th. -/
def Sums (d : Dev nD) : Buf (Elt F) (sLoc d) := fun p : S32x16.Idx => BitVec.ofNat 32 (lane (bit m d) (131072 * (p 0).val) 8192 (p 1).val)
/-- The result: at each position the count up to and at it, less one, clamped. -/
def Out (d : Dev nD) : Buf (Elt F) (oLoc d) := fun p : S4194304.Idx => outWord (upTo (bit m d) ((p 0).val + 1))

/-! ## The arrays cut among the tiles -/

/-- Positions `[32768 n, 32768 (n + 1))` of the long arrays; tile `w`'s share of them, four such chunks; row `w` of the lane sums. -/
def chunk (n : ℕ) : Finset S4194304.Idx := Finset.univ.filter fun p => 32768 * n ≤ (p 0).val ∧ (p 0).val < 32768 * (n + 1)
def blk (w : ℕ) : Finset S4194304.Idx := Finset.univ.filter fun p => 131072 * w ≤ (p 0).val ∧ (p 0).val < 131072 * (w + 1)
def rowOf (w : ℕ) : Finset S32x16.Idx := Finset.univ.filter fun p => (p 0).val = w

theorem mem_chunk {n : ℕ} {p : S4194304.Idx} : p ∈ chunk n ↔ 32768 * n ≤ (p 0).val ∧ (p 0).val < 32768 * (n + 1) := by
  unfold chunk; rw [Finset.mem_filter]; exact ⟨fun h => h.2, fun h => ⟨Finset.mem_univ _, h⟩⟩
theorem mem_blk {n : ℕ} {p : S4194304.Idx} : p ∈ blk n ↔ 131072 * n ≤ (p 0).val ∧ (p 0).val < 131072 * (n + 1) := by
  unfold blk; rw [Finset.mem_filter]; exact ⟨fun h => h.2, fun h => ⟨Finset.mem_univ _, h⟩⟩
theorem mem_rowOf {w : ℕ} {p : S32x16.Idx} : p ∈ rowOf w ↔ (p 0).val = w := by
  unfold rowOf; rw [Finset.mem_filter]; exact ⟨fun h => h.2, fun h => ⟨Finset.mem_univ _, h⟩⟩

theorem blk_cover : (Finset.range 32).biUnion blk = Finset.univ := by
  ext p
  have hp : (p 0).val < 4194304 := (p 0).isLt
  simp only [Finset.mem_biUnion, Finset.mem_range, Finset.mem_univ, iff_true]
  exact ⟨(p 0).val / 131072, by omega, mem_blk.2 (by omega)⟩
theorem blk_disjoint : ∀ i ∈ Finset.range 32, ∀ j ∈ Finset.range 32, i ≠ j → Disjoint (blk i) (blk j) :=
  fun i _ j _ h => Finset.disjoint_left.2 fun p hi hj => by rw [mem_blk] at hi hj; omega
theorem chunk_cover (w : ℕ) : (Finset.range 4).biUnion (fun r => chunk (4 * w + r)) = blk w := by
  ext p
  simp only [Finset.mem_biUnion, Finset.mem_range, mem_blk, mem_chunk]
  constructor
  · rintro ⟨r, hr, h⟩; omega
  · intro h; exact ⟨(p 0).val / 32768 - 4 * w, by omega, by omega⟩
theorem chunk_disjoint (w : ℕ) : ∀ i ∈ Finset.range 4, ∀ j ∈ Finset.range 4, i ≠ j → Disjoint (chunk (4 * w + i)) (chunk (4 * w + j)) :=
  fun i _ j _ h => Finset.disjoint_left.2 fun p hi hj => by rw [mem_chunk] at hi hj; omega
theorem rowOf_cover : (Finset.range 32).biUnion rowOf = Finset.univ := by
  ext p
  have hp : (p 0).val < 32 := (p 0).isLt
  simp only [Finset.mem_biUnion, Finset.mem_range, Finset.mem_univ, iff_true]
  exact ⟨(p 0).val, by omega, mem_rowOf.2 rfl⟩
theorem rowOf_disjoint : ∀ i ∈ Finset.range 32, ∀ j ∈ Finset.range 32, i ≠ j → Disjoint (rowOf i) (rowOf j) :=
  fun i _ j _ h => Finset.disjoint_left.2 fun p hi hj => by rw [mem_rowOf] at hi hj; omega

/-- Tile `w`'s share of the mask's words, and of the result at contents `f`. -/
def vBlk (d : Dev nD) (w : ℕ) : sProp 𝕄 := bigSep (Finset.range 4) fun r => vLoc d ↦[chunk (4 * w + r)]{fullShare} X m d
def oBlk (d : Dev nD) (w : ℕ) (f : Buf (Elt F) (oLoc d)) : sProp 𝕄 := bigSep (Finset.range 4) fun r => oLoc d ↦[chunk (4 * w + r)]{fullShare} f
/-- Row `w` of the lane sums at contents `f`, and tile `w`'s reading share of all of them. -/
def sRow (d : Dev nD) (w : ℕ) (f : Buf (Elt F) (sLoc d)) : sProp 𝕄 := sLoc d ↦[rowOf w]{fullShare} f
def sTok (d : Dev nD) (w : ℕ) : sProp 𝕄 := sLoc d ↦{Transfers.shareTokN fullShare w} Sums m d

theorem vBlks (d : Dev nD) : (vLoc d ↦{fullShare} X m d : sProp 𝕄) = bigSep (Finset.range 32) fun w => vBlk m d w := by
  rw [← blk_cover, pointsTo_biUnion (Finset.range 32) (ℓ := vLoc d) blk blk_disjoint]
  refine bigSep_congr fun w _ => ?_
  rw [← chunk_cover w]; exact pointsTo_biUnion (Finset.range 4) (ℓ := vLoc d) _ (chunk_disjoint w)
theorem oBlks (d : Dev nD) (f : Buf (Elt F) (oLoc d)) : (oLoc d ↦{fullShare} f : sProp 𝕄) = bigSep (Finset.range 32) fun w => oBlk d w f := by
  rw [← blk_cover, pointsTo_biUnion (Finset.range 32) (ℓ := oLoc d) blk blk_disjoint]
  refine bigSep_congr fun w _ => ?_
  rw [← chunk_cover w]; exact pointsTo_biUnion (Finset.range 4) (ℓ := oLoc d) _ (chunk_disjoint w)
theorem sRows (d : Dev nD) (f : Buf (Elt F) (sLoc d)) : (sLoc d ↦{fullShare} f : sProp 𝕄) = bigSep (Finset.range 32) fun w => sRow d w f := by
  rw [← rowOf_cover]; exact pointsTo_biUnion (Finset.range 32) (ℓ := sLoc d) _ rowOf_disjoint

/-- Thirty-two tiles are two SparseCores' sixteen. -/
theorem bigSep_tiles (Φ : ℕ → sProp 𝕄) :
    bigSep (Finset.range 32) Φ = bigSep Finset.univ fun c : Fin 2 => bigSep Finset.univ fun i : Fin 16 => Φ (16 * c.val + i.val) := by
  have h1 : bigSep (Finset.range 32) Φ = bigSep Finset.univ fun w : Fin 32 => Φ w.val := by
    rw [← Nat.Iio_eq_range, ← Fin.map_valEmbedding_univ, bigSep_map]; rfl
  rw [h1, ← bigSep_univ_prod (Φ := fun x : Fin 2 × Fin 16 => Φ (16 * x.1.val + x.2.val)), bigSep_univ_equiv (finProdFinEquiv : Fin 2 × Fin 16 ≃ Fin 32)]
  refine bigSep_congr fun x _ => congrArg Φ ?_
  show x.2.val + 16 * x.1.val = _
  omega

/-! ## What the handshakes carry -/

/-- Two members, or three, taken out of a separating conjunction. -/
theorem take2 {ι : Type} [DecidableEq ι] {S : Finset ι} {Φ : ι → sProp 𝕄} {a b : ι} (ha : a ∈ S) (hb : b ∈ S) (hab : b ≠ a) :
    bigSep S Φ = iprop(Φ a ∗ Φ b ∗ bigSep ((S.erase a).erase b) Φ) := by
  rw [SparseCore.bigSep_erase' ha, SparseCore.bigSep_erase' (Finset.mem_erase.mpr ⟨hab, hb⟩)]
theorem take3 {ι : Type} [DecidableEq ι] {S : Finset ι} {Φ : ι → sProp 𝕄} {a b c : ι} (ha : a ∈ S) (hb : b ∈ S) (hc : c ∈ S)
    (hab : b ≠ a) (hac : c ≠ a) (hbc : c ≠ b) :
    bigSep S Φ = iprop(Φ a ∗ Φ b ∗ Φ c ∗ bigSep (((S.erase a).erase b).erase c) Φ) := by
  rw [take2 ha hb hab, SparseCore.bigSep_erase' (Finset.mem_erase.mpr ⟨hbc, Finset.mem_erase.mpr ⟨hac, hc⟩⟩)]

/-- To a tile at the first call: its share of the words and its row of the lane sums' array; back: the row filled. -/
def go0 (d : Dev nD) (w : ℕ) : sProp 𝕄 := iprop(vBlk m d w ∗ sRow d w (m (sLoc d)))
def td0 (d : Dev nD) (w : ℕ) : sProp 𝕄 := iprop(vBlk m d w ∗ sRow d w (Sums m d))
/-- To a tile at the second call: its share of the words, a reading share of the lane sums, its share of the result; back: the result's
    share filled. -/
def go1 (d : Dev nD) (w : ℕ) : sProp 𝕄 := iprop(vBlk m d w ∗ sTok m d w ∗ oBlk d w (m (oLoc d)))
def td1 (d : Dev nD) (w : ℕ) : sProp 𝕄 := iprop(vBlk m d w ∗ sTok m d w ∗ oBlk d w (Out m d))

instance go0_storable (d : Dev nD) (w : ℕ) : BI.Storable (upEmb : UEmb _ 𝕄) (go0 m d w) := by unfold go0 vBlk sRow; infer_instance
instance td0_storable (d : Dev nD) (w : ℕ) : BI.Storable (upEmb : UEmb _ 𝕄) (td0 m d w) := by unfold td0 vBlk sRow; infer_instance
instance go1_storable (d : Dev nD) (w : ℕ) : BI.Storable (upEmb : UEmb _ 𝕄) (go1 m d w) := by unfold go1 vBlk sTok oBlk; infer_instance
instance td1_storable (d : Dev nD) (w : ℕ) : BI.Storable (upEmb : UEmb _ 𝕄) (td1 m d w) := by unfold td1 vBlk sTok oBlk; infer_instance

/-- A tile's number. -/
abbrev tileNo (c i : ℕ) : ℕ := 16 * c + i

/-- Each call hands a SparseCore what its sixteen tiles take, and takes back what they leave. -/
def P : (K (F := F)).Pay (nD := nD) (Val := Elt F) (Name := ℕ) (U := UU) where
  st := fun q d c => match q with
    | 0 => bigSep Finset.univ fun i : Fin 16 => go0 m d (tileNo c.val i.val)
    | 1 => bigSep Finset.univ fun i : Fin 16 => go1 m d (tileNo c.val i.val)
  dn := fun q d c => match q with
    | 0 => bigSep Finset.univ fun i : Fin 16 => td0 m d (tileNo c.val i.val)
    | 1 => bigSep Finset.univ fun i : Fin 16 => td1 m d (tileNo c.val i.val)
  go := fun q d c i => match q with | 0 => go0 m d (tileNo c.val i.val) | 1 => go1 m d (tileNo c.val i.val)
  td := fun q d c i => match q with | 0 => td0 m d (tileNo c.val i.val) | 1 => td1 m d (tileNo c.val i.val)
  x := fun _ _ => iprop(emp)

instance P_storable : (P (F := F) m).IsStorable where
  st q d c := match q with
    | 0 => (inferInstance : BI.Storable (upEmb : UEmb _ 𝕄) (bigSep Finset.univ fun i : Fin 16 => go0 m d (tileNo c.val i.val)))
    | 1 => (inferInstance : BI.Storable (upEmb : UEmb _ 𝕄) (bigSep Finset.univ fun i : Fin 16 => go1 m d (tileNo c.val i.val)))
  dn q d c := match q with
    | 0 => (inferInstance : BI.Storable (upEmb : UEmb _ 𝕄) (bigSep Finset.univ fun i : Fin 16 => td0 m d (tileNo c.val i.val)))
    | 1 => (inferInstance : BI.Storable (upEmb : UEmb _ 𝕄) (bigSep Finset.univ fun i : Fin 16 => td1 m d (tileNo c.val i.val)))
  go q d c i := match q with
    | 0 => (inferInstance : BI.Storable (upEmb : UEmb _ 𝕄) (go0 m d (tileNo c.val i.val)))
    | 1 => (inferInstance : BI.Storable (upEmb : UEmb _ 𝕄) (go1 m d (tileNo c.val i.val)))
  td q d c i := match q with
    | 0 => (inferInstance : BI.Storable (upEmb : UEmb _ 𝕄) (td0 m d (tileNo c.val i.val)))
    | 1 => (inferInstance : BI.Storable (upEmb : UEmb _ 𝕄) (td1 m d (tileNo c.val i.val)))

end Cert.Proof.Count

end
-- ==== Proof.Sums.lean ====
/-
  The first call's tile: its four chunks of the mask's words fetched by turns into the two halves of a scratch, each summed lane by lane
  while the next is on its way, and the sixteen sums written out to the tile's row.
-/
module

public import proofs.«01_k».proof.Proof.Setup

@[expose] public section

noncomputable section

namespace Cert.Proof.Count

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "vV" => (Memref.whole Cert.KernelIdeal.main_v0_scv : Memref Cert.KernelIdeal.sig Kind.scVector Space.hbm Cert.KernelIdeal.S4194304 EltTy.i32)
local notation "sV" => (Memref.whole Cert.KernelIdeal.main_v1_scv : Memref Cert.KernelIdeal.sig Kind.scVector Space.hbm Cert.KernelIdeal.S32x16 EltTy.i32)
local notation "bufV" => (Memref.whole Cert.KernelIdeal.cc0_scratch0 : Memref Cert.KernelIdeal.sig Kind.scVector Space.vmem Cert.KernelIdeal.S2x32768 EltTy.i32)
local notation "accV" => (Memref.whole Cert.KernelIdeal.cc0_scratch1 : Memref Cert.KernelIdeal.sig Kind.scVector Space.vmem Cert.KernelIdeal.S16 EltTy.i32)

variable (m : (ℓ : Loc nD τ sig) → Buf (Elt F) ℓ)
variable [FloatOps F]

section Tile0

variable (d : Dev nD) (L : grid0.Coords)

abbrev cV (L : grid0.Coords) : Fin τ.nSC := (L 0).castLE hcore0
abbrev jV (L : grid0.Coords) : Fin τ.nSub := (L 1).castLE hsub0
/-- The tile's number and its thread. -/
abbrev wid (L : grid0.Coords) : ℕ := tileNo (L 0).val (L 1).val
abbrev VT (d : Dev nD) (L : grid0.Coords) : Thread nD τ := V d (cV L) (jV L)

/-- Chunk `r` of the tile's words, and its row of the lane sums, as the body addresses them. -/
abbrev chunkK (L : grid0.Coords) (r : Fin 4) : Memref sig .scVector .hbm S32768 .i32 :=
  (vV).slice (Rect.unit (s := S4194304) (k0_off1 L (BitVec.ofNat 32 (32768 * r.val))) S32768.size (k0_off1_inb L r)) (fun _ => rfl)
abbrev rowK (L : grid0.Coords) : Memref sig .scVector .hbm S16 .i32 :=
  ((sV).slice (Rect.unit (s := S32x16) (k0_off10 L) S1x16.size (k0_off10_inb L)) (fun _ => rfl)).squeeze S16 squeezes_S1x16_S16

omit [FloatOps F] in
theorem set_chunkK (r : Fin 4) : (chunkK L r).view.set = chunk (4 * wid L + r.val) := by
  show ((View.whole (main_v0_scv : Ref sig .scVector)).slice _).set = _
  rw [View.set_slice_whole]
  ext p
  rw [Rect.mem_set_unit, mem_chunk]
  simp only [k0_off1_eq]
  constructor
  · intro h; have := h 0; simp at this; simp only [wid, tileNo]; omega
  · intro h a
    match a with
    | 0 => simp only [wid, tileNo] at h; simp; omega
omit [FloatOps F] in
theorem set_rowK : (rowK L).view.set = rowOf (wid L) := by
  show (((View.whole (main_v1_scv : Ref sig .scVector)).slice _).reshape _ _).set = _
  rw [View.set_reshape, View.set_slice_whole]
  ext p
  rw [Rect.mem_set_unit, mem_rowOf]
  simp only [k0_off10_eq]
  constructor
  · intro h; have := h 0; simp at this; simp only [wid, tileNo]; omega
  · intro h a
    match a with
    | 0 => simp only [wid, tileNo] at h; simp; omega
    | 1 => simp; exact (p 1).isLt

/-- The four chunks with the offsets' words written out, as the body has them. -/
abbrev chunk0 (L : grid0.Coords) : Memref sig .scVector .hbm S32768 .i32 :=
  (vV).slice (Rect.unit (s := S4194304) (k0_off1 L 0#32) S32768.size (k0_off1_inb L 0)) (fun _ => rfl)
abbrev chunk1 (L : grid0.Coords) : Memref sig .scVector .hbm S32768 .i32 :=
  (vV).slice (Rect.unit (s := S4194304) (k0_off1 L 32768#32) S32768.size (k0_off1_inb L 1)) (fun _ => rfl)
abbrev chunk2 (L : grid0.Coords) : Memref sig .scVector .hbm S32768 .i32 :=
  (vV).slice (Rect.unit (s := S4194304) (k0_off1 L 65536#32) S32768.size (k0_off1_inb L 2)) (fun _ => rfl)
abbrev chunk3 (L : grid0.Coords) : Memref sig .scVector .hbm S32768 .i32 :=
  (vV).slice (Rect.unit (s := S4194304) (k0_off1 L 98304#32) S32768.size (k0_off1_inb L 3)) (fun _ => rfl)

omit [FloatOps F] in
/-- The tile's words are its four chunks as the body addresses them. -/
theorem vBlk_chunks :
    (vBlk m d (wid L) : sProp 𝕄)
      = iprop(((chunk0 L).view.loc (VT d L) ↦[(chunk0 L).view.set]{fullShare} X m d) ∗ ((chunk1 L).view.loc (VT d L) ↦[(chunk1 L).view.set]{fullShare} X m d)
          ∗ ((chunk2 L).view.loc (VT d L) ↦[(chunk2 L).view.set]{fullShare} X m d) ∗ ((chunk3 L).view.loc (VT d L) ↦[(chunk3 L).view.set]{fullShare} X m d)) := by
  unfold vBlk
  rw [show (chunk0 L).view.set = chunk (4 * wid L + 0) from set_chunkK L 0, show (chunk1 L).view.set = chunk (4 * wid L + 1) from set_chunkK L 1,
    show (chunk2 L).view.set = chunk (4 * wid L + 2) from set_chunkK L 2, show (chunk3 L).view.set = chunk (4 * wid L + 3) from set_chunkK L 3,
    show Finset.range 4 = {0, 1, 2, 3} by decide, SparseCore.bigSep_insert' (by decide), SparseCore.bigSep_insert' (by decide),
    SparseCore.bigSep_insert' (by decide), bigSep_singleton]
omit [FloatOps F] in
theorem pts_rowK (f : Buf (Elt F) (sLoc d)) :
    ((rowK L).view.loc (VT d L) ↦[(rowK L).view.set]{fullShare} f : sProp 𝕄) = sLoc d ↦[rowOf (wid L)]{fullShare} f := by
  rw [set_rowK]

abbrev slotK0 : Memref sig .scVector .vmem S32768 .i32 :=
  ((bufV).slice (Rect.unit (s := S2x32768) ![0, 0] S1x32768.size inb_S2x32768_S1x32768_0_0) (fun _ => rfl)).squeeze S32768 squeezes_S1x32768_S32768
abbrev slotK1 : Memref sig .scVector .vmem S32768 .i32 :=
  ((bufV).slice (Rect.unit (s := S2x32768) ![1, 0] S1x32768.size inb_S2x32768_S1x32768_1_0) (fun _ => rfl)).squeeze S32768 squeezes_S1x32768_S32768

omit [FloatOps F] in
theorem mem_slotK0 (p : S2x32768.Idx) : p ∈ (slotK0).view.set ↔ (p 0).val = 0 := by
  have e : (slotK0).view.set = (Rect.unit (s := S2x32768) ![0, 0] S1x32768.size inb_S2x32768_S1x32768_0_0).set := by
    show (((View.whole (cc0_scratch0 : Ref sig .scVector)).slice _).reshape _ _).set = _
    rw [View.set_reshape, View.set_slice_whole]
  rw [e, Rect.mem_set_unit]
  constructor
  · intro h; have := h 0; simp at this; omega
  · intro h a
    match a with
    | 0 => simp; omega
    | 1 => simp; exact (p 1).isLt
omit [FloatOps F] in
theorem mem_slotK1 (p : S2x32768.Idx) : p ∈ (slotK1).view.set ↔ (p 0).val = 1 := by
  have e : (slotK1).view.set = (Rect.unit (s := S2x32768) ![1, 0] S1x32768.size inb_S2x32768_S1x32768_1_0).set := by
    show (((View.whole (cc0_scratch0 : Ref sig .scVector)).slice _).reshape _ _).set = _
    rw [View.set_reshape, View.set_slice_whole]
  rw [e, Rect.mem_set_unit]
  constructor
  · intro h; have := h 0; simp at this; omega
  · intro h a
    match a with
    | 0 => simp; have := (p 0).isLt; omega
    | 1 => simp; exact (p 1).isLt

omit [FloatOps F] in
/-- A load of sixteen words of row 0 (of row 1) stays in the first (the second) slot. -/
theorem box_slotK0 (off : Fin 2 → ℕ) (inb) (h : off 0 = 0) :
    ((bufV).access (Rect.unit (s := S2x32768) off S1x16.size inb)).set ⊆ (slotK0).view.set := by
  intro p hp
  have hp' : p ∈ ((View.whole (cc0_scratch0 : Ref sig .scVector)).slice (Rect.unit (s := S2x32768) off S1x16.size inb)).set := hp
  rw [View.set_slice_whole, Rect.mem_set_unit] at hp'
  rw [mem_slotK0]
  have := hp' 0
  simp [h] at this; omega
omit [FloatOps F] in
theorem box_slotK1 (off : Fin 2 → ℕ) (inb) (h : off 0 = 1) :
    ((bufV).access (Rect.unit (s := S2x32768) off S1x16.size inb)).set ⊆ (slotK1).view.set := by
  intro p hp
  have hp' : p ∈ ((View.whole (cc0_scratch0 : Ref sig .scVector)).slice (Rect.unit (s := S2x32768) off S1x16.size inb)).set := hp
  rw [View.set_slice_whole, Rect.mem_set_unit] at hp'
  rw [mem_slotK1]
  have := hp' 0
  simp [h] at this; omega

/-- A slot's contents once chunk `r` has landed in it. -/
def SB (L : grid0.Coords) (r : ℕ) : Buf (Elt F) ((VT d L).loc cc0_scratch0) :=
  fun p => BitVec.ofNat 32 (bit m d (131072 * wid L + 32768 * r + (p 1).val))

/-- A buffer's elements under a view, written whole through it, are those elements at any contents that read so. -/
theorem landed (c : Thread nD τ) {sp : Space} {s : Shape} {e : EltTy} (v : View sig c.2.kind sp s e) (q : PosShare TreeShare) (f G : Buf (Elt F) (v.loc c))
    (w : s.Idx → Elt F e) (h : ∀ x, v.read (Elt F) G x = w x) :
    (v.loc c ↦[v.set]{q} v.writes (Elt F) f [⟨Rect.whole s, w⟩] : sProp 𝕄) = v.loc c ↦[v.set]{q} G :=
  pointsTo_congr fun i hi => by
    obtain ⟨x, -, rfl⟩ := Finset.mem_map.mp hi
    have h1 : v.read (Elt F) (v.writes (Elt F) f [⟨Rect.whole s, w⟩]) x = w x := by
      have := v.read_writes_cons_emb (f := f) (Rect.whole s) w [] x
      rwa [Rect.emb_whole_apply] at this
    rw [← h x] at h1
    exact (cast_bijective _).injective h1

theorem reshape_cons (n : ℕ) (h : (⟨1, ![n]⟩ : Shape).numel = (⟨2, ![1, n]⟩ : Shape).numel) (x : (⟨1, ![n]⟩ : Shape).Idx) (a : Fin 2) :
    (Shape.reshapeEquiv h x a).val = (![0, (x 0).val] : Fin 2 → ℕ) a := by
  have := shapeCast_dropUnit_apply ![n] (fun i : (⟨2, ![1, n]⟩ : Shape).Idx => i) h x
  unfold shapeCast at this
  have e : Shape.reshapeEquiv h x = Fin.cons ⟨0, Nat.one_pos⟩ x := this
  rw [e]
  match a with
  | 0 => rfl
  | 1 => rfl

theorem chunk_read (r : Fin 4) (x : S32768.Idx) :
    View.read (Elt F) (chunkK L r).view (X m d) x = BitVec.ofNat 32 (bit m d (131072 * wid L + 32768 * r.val + (x 0).val)) := by
  show BitVec.ofNat 32 (bit m d _) = _
  congr 2
  show (k0_off1 L (BitVec.ofNat 32 (32768 * r.val))) 0 + 1 * (x 0).val = _
  rw [k0_off1_eq]
  simp [wid, tileNo]; omega

theorem slot_read0 (r : ℕ) (x : S32768.Idx) :
    View.read (Elt F) (slotK0).view (SB m d L r) x = BitVec.ofNat 32 (bit m d (131072 * wid L + 32768 * r + (x 0).val)) := by
  show BitVec.ofNat 32 (bit m d (131072 * wid L + 32768 * r + (0 + 1 * (Shape.reshapeEquiv _ x 1).val))) = _
  rw [reshape_cons]; simp
theorem slot_read1 (r : ℕ) (x : S32768.Idx) :
    View.read (Elt F) (slotK1).view (SB m d L r) x = BitVec.ofNat 32 (bit m d (131072 * wid L + 32768 * r + (x 0).val)) := by
  show BitVec.ofNat 32 (bit m d (131072 * wid L + 32768 * r + (0 + 1 * (Shape.reshapeEquiv _ x 1).val))) = _
  rw [reshape_cons]; simp

/-- Sixteen words of a slot, read at a box of one row. -/
theorem box_read (off : Fin 2 → ℕ) (inb) (r c : ℕ) (h : off 1 = c) (l : Fin 16) :
    View.readAt (Elt F) (bufV).view (Rect.unit (s := S2x32768) off S1x16.size inb).toLoadRect (SB m d L r) (Fin.cons ⟨0, Nat.one_pos⟩ (ix1 l))
      = BitVec.ofNat 32 (bit m d (131072 * wid L + 32768 * r + (c + l.val))) := by
  subst h
  show BitVec.ofNat 32 (bit m d (131072 * wid L + 32768 * r + (off 1 + 1 * l.val))) = _
  rw [one_mul]

/-- One trip's sums. -/
theorem pay_step (B : ℕ → ℕ) (o n : ℕ) (acc : IVec S16 32) (a b c e : Vec F S1x16 .i32)
    (hacc : ∀ l : Fin 16, acc (ix1 l) = BitVec.ofNat 32 (lane B o (4 * n) l.val))
    (ha : ∀ l : Fin 16, a (Fin.cons ⟨0, Nat.one_pos⟩ (ix1 l)) = BitVec.ofNat 32 (B (o + 64 * n + l.val)))
    (hb : ∀ l : Fin 16, b (Fin.cons ⟨0, Nat.one_pos⟩ (ix1 l)) = BitVec.ofNat 32 (B (o + 64 * n + 16 + l.val)))
    (hc : ∀ l : Fin 16, c (Fin.cons ⟨0, Nat.one_pos⟩ (ix1 l)) = BitVec.ofNat 32 (B (o + 64 * n + 32 + l.val)))
    (he : ∀ l : Fin 16, e (Fin.cons ⟨0, Nat.one_pos⟩ (ix1 l)) = BitVec.ofNat 32 (B (o + 64 * n + 48 + l.val))) (l : Fin 16) :
    k0_pay2 acc a b c e (ix1 l) = BitVec.ofNat 32 (lane B o (4 * (n + 1)) l.val) := by
  have ea := (shapeCast_dropUnit_apply ![16] a shapeCasts_S1x16_S16 (ix1 l)).trans (ha l)
  have eb := (shapeCast_dropUnit_apply ![16] b shapeCasts_S1x16_S16 (ix1 l)).trans (hb l)
  have ec := (shapeCast_dropUnit_apply ![16] c shapeCasts_S1x16_S16 (ix1 l)).trans (hc l)
  have ee := (shapeCast_dropUnit_apply ![16] e shapeCasts_S1x16_S16 (ix1 l)).trans (he l)
  show acc (ix1 l) + ((shapeCast S16 a shapeCasts_S1x16_S16 (ix1 l) + shapeCast S16 b shapeCasts_S1x16_S16 (ix1 l))
    + (shapeCast S16 c shapeCasts_S1x16_S16 (ix1 l) + shapeCast S16 e shapeCasts_S1x16_S16 (ix1 l))) = _
  rw [hacc, lane_four]
  erw [ea, eb, ec, ee]
  simp only [← BitVec.ofNat_add]

/-- Before trip `k` of the loop over chunk `r`: the sums run over the chunk's first `64 k` words, the slot holds the chunk. -/
def inv0 (r : ℕ) (k : ℕ) (acc : IVec S16 32) : sProp 𝕄 :=
  iprop(⌜∀ l : Fin 16, acc (ix1 l) = BitVec.ofNat 32 (lane (bit m d) (131072 * wid L) (4 * (512 * r + k)) l.val)⌝
    ∗ ((slotK0).view.loc (VT d L) ↦[(slotK0).view.set]{fullShare} SB m d L r))
def inv1 (r : ℕ) (k : ℕ) (acc : IVec S16 32) : sProp 𝕄 :=
  iprop(⌜∀ l : Fin 16, acc (ix1 l) = BitVec.ofNat 32 (lane (bit m d) (131072 * wid L) (4 * (512 * r + k)) l.val)⌝
    ∗ ((slotK1).view.loc (VT d L) ↦[(slotK1).view.set]{fullShare} SB m d L r))

omit [FloatOps F] in
/-- The tile's own semaphores and buffers at this call: the three its copies use and the two scratches, and the rest. -/
theorem sems_V0 :
    (ownSems0 (VT d L) : sProp 𝕄)
      = iprop(semVal (VT d L, SemLoc.dma cc0_scratch2.sem) 0 ∗ semVal (VT d L, SemLoc.dma cc0_scratch3.sem) 0 ∗ semVal (VT d L, SemLoc.dma cc0_scoped0.sem) 0
          ∗ bigSep ((((ownCells (VT d L)).erase (VT d L, SemLoc.dma cc0_scratch2.sem)).erase (VT d L, SemLoc.dma cc0_scratch3.sem)).erase
              (VT d L, SemLoc.dma cc0_scoped0.sem)) fun g => semVal g 0) :=
  take3 (mem_ownCells.mpr ⟨rfl, by show (SemLoc.dma cc0_scratch2.sem : SemLoc sig).isScoped .scVector = true; decide⟩)
    (mem_ownCells.mpr ⟨rfl, by show (SemLoc.dma cc0_scratch3.sem : SemLoc sig).isScoped .scVector = true; decide⟩)
    (mem_ownCells.mpr ⟨rfl, by show (SemLoc.dma cc0_scoped0.sem : SemLoc sig).isScoped .scVector = true; decide⟩)
    (fun e => absurd (congrArg Prod.snd e) (show (SemLoc.dma cc0_scratch3.sem : SemLoc sig) ≠ SemLoc.dma cc0_scratch2.sem by decide)) (fun e => absurd (congrArg Prod.snd e) (show (SemLoc.dma cc0_scoped0.sem : SemLoc sig) ≠ SemLoc.dma cc0_scratch2.sem by decide)) (fun e => absurd (congrArg Prod.snd e) (show (SemLoc.dma cc0_scoped0.sem : SemLoc sig) ≠ SemLoc.dma cc0_scratch3.sem by decide))

omit [FloatOps F] in
theorem bufs_V0 :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) :=
  take2 (SparseCore.Cfg.mem_ownRefs_of_owner (p := Proc.scVector (cV L) (jV L)) (b := (Proc.scVector (cV L) (jV L)).devRef cc0_scratch0) rfl)
    (SparseCore.Cfg.mem_ownRefs_of_owner (p := Proc.scVector (cV L) (jV L)) (b := (Proc.scVector (cV L) (jV L)).devRef cc0_scratch1) rfl)
    (fun e => absurd (Proc.devRef_injective _ e) (show (cc0_scratch1 : Ref sig .scVector) ≠ cc0_scratch0 by decide))

omit [FloatOps F] in
/-- The scratch is its two slots. -/
theorem pts_slots (f : Buf (Elt F) ((VT d L).loc cc0_scratch0)) :
    ((VT d L).loc cc0_scratch0 ↦{fullShare} f : sProp 𝕄)
      = iprop(((slotK0).view.loc (VT d L) ↦[(slotK0).view.set]{fullShare} f) ∗ ((slotK1).view.loc (VT d L) ↦[(slotK1).view.set]{fullShare} f)) := by
  have hd : Disjoint (slotK0).view.set (slotK1).view.set := Finset.disjoint_left.mpr fun p h0 h1 => by
    have h0 := (mem_slotK0 p).mp h0; have h1 := (mem_slotK1 p).mp h1; omega
  have hu : (Finset.univ : Finset S2x32768.Idx) = (slotK0).view.set ∪ (slotK1).view.set := by
    refine (Finset.eq_univ_of_forall fun p => Finset.mem_union.mpr ?_).symm
    have : (p 0).val < 2 := (p 0).isLt
    rcases Nat.lt_or_ge (p 0).val 1 with h | h
    · exact .inl ((mem_slotK0 p).mpr (by omega))
    · exact .inr ((mem_slotK1 p).mpr (by omega))
  show ((VT d L).loc cc0_scratch0 ↦[(Finset.univ : Finset S2x32768.Idx)]{fullShare} f : sProp 𝕄) = _
  rw [hu]
  have hu' : ((slotK0).view.loc (VT d L) ↦[(slotK0).view.set ∪ (slotK1).view.set]{fullShare} f : sProp 𝕄)
      ⊣⊢ iprop(((slotK0).view.loc (VT d L) ↦[(slotK0).view.set]{fullShare} f) ∗ ((slotK0).view.loc (VT d L) ↦[(slotK1).view.set]{fullShare} f)) :=
    pointsTo_union hd
  exact BI.equiv_iff.mp ⟨hu'.1, hu'.2⟩

omit [FloatOps F] in
theorem pts_slots' (f g : Buf (Elt F) ((VT d L).loc cc0_scratch0)) :
    iprop(((slotK0).view.loc (VT d L) ↦[(slotK0).view.set]{fullShare} f) ∗ ((slotK1).view.loc (VT d L) ↦[(slotK1).view.set]{fullShare} g))
      ⊢ (iprop(∃ h, (VT d L).loc cc0_scratch0 ↦{fullShare} h) : sProp 𝕄) := by
  have e0 : ((slotK0).view.loc (VT d L) ↦[(slotK0).view.set]{fullShare} f : sProp 𝕄)
      = (slotK0).view.loc (VT d L) ↦[(slotK0).view.set]{fullShare} (fun p => if (p 0).val = 0 then f p else g p) :=
    pointsTo_congr fun p hp => (if_pos ((mem_slotK0 p).mp hp)).symm
  have e1 : ((slotK1).view.loc (VT d L) ↦[(slotK1).view.set]{fullShare} g : sProp 𝕄)
      = (slotK1).view.loc (VT d L) ↦[(slotK1).view.set]{fullShare} (fun p => if (p 0).val = 0 then f p else g p) :=
    pointsTo_congr fun p hp => (if_neg (by have := (mem_slotK1 p).mp hp; omega)).symm
  rw [e0, e1, ← pts_slots]
  iintro H; iexists _; iexact H

omit [FloatOps F] in
/-- What the accumulator's scratch reads once it is stored there. -/
theorem acc_read (fa : Buf (Elt F) ((VT d L).loc cc0_scratch1)) (acc : IVec S16 32) (x : S16.Idx) :
    View.read (Elt F) (accV).view ((accV).view.writes (Elt F) fa [⟨Rect.unit (s := S16) ![0] S16.size inb_S16_S16_0, acc⟩]) x = acc x :=
  View.read_writes_cons_hit_of_coords (accV).view fa (Rect.unit (s := S16) ![0] S16.size inb_S16_S16_0) acc [] x x fun a => by
    match a with
    | 0 => show (x 0).val = 0 + 1 * (x 0).val; omega

theorem row_read (x : S16.Idx) :
    View.read (Elt F) (rowK L).view (Sums m d) x = BitVec.ofNat 32 (lane (bit m d) (131072 * wid L) 8192 (x 0).val) := by
  show BitVec.ofNat 32 (lane (bit m d) (131072 * (k0_off10 L 0 + 1 * (Shape.reshapeEquiv _ x 0).val)) 8192 (k0_off10 L 1 + 1 * (Shape.reshapeEquiv _ x 1).val)) = _
  have e0 : k0_off10 L 0 = wid L := by rw [k0_off10_eq]; rfl
  have e1 : k0_off10 L 1 = 0 := by rw [k0_off10_eq]; rfl
  rw [reshape_cons, reshape_cons, e0, e1]
  simp

/-- The tile's work at the first call. -/
theorem sums_body (hF : (K (F := F)).Facts) (O : CellTallies nD τ sig (HIx 2)) (W : Waits sig (HIx 2)) (hO : ∀ g, O g none = 0) :
    iprop(levAts (K (F := F)).L (K (F := F)).lev ∗ emp ∗ go0 m d (wid L)
        ∗ scopedBufs (VT d L) ∗ scopedSems0 (VT d L) ∗ owes (VT d L) O W)
      ⊢ wp frame (wpE (defs₀ (F := F)) 𝒱₀ (VT d L) none) Set.univ
          (cc0__sums_kernel L vV (Memref.isWhole_whole _) sV (Memref.isWhole_whole _) bufV (Memref.isWhole_whole _) accV (Memref.isWhole_whole _)
            cc0_scratch2 cc0_scratch3 cc0_scoped0)
          fun _ => iprop(td0 m d (wid L) ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), sems_V0, bufs_V0]
  unfold go0 td0 sRow
  rw [vBlk_chunks]
  rw [cc0__sums_kernel_eq_skeleton]; unfold cc0__sums_kernel_skel
  rw [k0_part1_eq_skeleton]; unfold k0_part1_skel
  iintro ⟨#Hlv, -, ⟨⟨H0, H1, H2, H3⟩, Hr⟩, ⟨⟨%fb, Hb⟩, ⟨%fa, Ha⟩, Hbufs⟩, ⟨HA, HB, HC, Hsems⟩, HO⟩
  ihave Hmw := (show levAts (K (F := F)).L (K (F := F)).lev ⊢ Transfers.MayWaits (VT d L) (default : HIx 2) O from
    (K (F := F)).mayWaits_none (thr := VT d L) hO) $$ Hlv
  ihave Hr' := (Entails.of_eq (pts_rowK (F := F) d L _).symm) $$ Hr
  ihave Ha' := (show ((VT d L).loc cc0_scratch1 ↦{fullShare} fa : sProp 𝕄) ⊢ ((accV).view.loc (VT d L) ↦{fullShare} fa) from Entails.of_eq rfl) $$ Ha
  ihave Hb' := (Entails.of_eq (pts_slots (F := F) d L _)) $$ Hb
  icases Hb' with ⟨Hb0, Hb1⟩
  sl_exec (disch := exact View.amount_pos _ _ (show 0 < S32768.numel by decide))
  ihave Hb0x := (Entails.of_eq (landed (VT d L) (slotK0).view fullShare _ (SB m d L 0) (sums_body.sl.dma0 m d L) fun x => (slot_read0 m d L 0 x).trans (chunk_read m d L 0 x).symm)) $$ Hb0
  rw [bind_assoc]
  sl_for (inv0 m d L 0) $$ [Hb0x]
  case region =>
    intro k acc
    unfold inv0
    iintro ⟨%hacc, Hb⟩
    have h0 := box_slotK0 _ (k0_off2_inb k) (by rw [k0_off2_eq]; rfl)
    have h1 := fun r : Fin 3 => box_slotK0 _ (k0_off3_inb k r) (by rw [k0_off3_eq]; rfl)
    have h2 := h1 0; have h3 := h1 1; have h4 := h1 2
    sl_exec
    sl_step
    isplitr
    · ipureintro
      exact pay_step (bit m d) (131072 * wid L) (512 * 0 + k.val) acc _ _ _ _ hacc
        (fun l => (box_read m d L _ (k0_off2_inb k) 0 (64 * k.val) (by rw [k0_off2_eq]; rfl) l).trans (by congr 2; omega))
        (fun l => (box_read m d L _ (k0_off3_inb k 0) 0 (64 * k.val + 16) (by rw [k0_off3_eq]; rfl) l).trans (by congr 2; omega))
        (fun l => (box_read m d L _ (k0_off3_inb k 1) 0 (64 * k.val + 32) (by rw [k0_off3_eq]; rfl) l).trans (by congr 2; omega))
        (fun l => (box_read m d L _ (k0_off3_inb k 2) 0 (64 * k.val + 48) (by rw [k0_off3_eq]; rfl) l).trans (by congr 2; omega))
    · iexact Hb
  · unfold inv0
    isplitr
    · ipureintro; intro l; rfl
    · iexact Hb0x
  iintro %acc1 HI
  unfold inv0
  icases HI with ⟨%hacc1, Hb0⟩
  sl_exec (disch := exact View.amount_pos _ _ (show 0 < S32768.numel by decide))
  ihave Hb1x := (Entails.of_eq (landed (VT d L) (slotK1).view fullShare _ (SB m d L 1) (sums_body.sl.dma0_1 m d L) fun x => (slot_read1 m d L 1 x).trans (chunk_read m d L 1 x).symm)) $$ Hb1
  sl_for (inv1 m d L 1) $$ [Hb1x]
  case region =>
    intro k acc
    unfold inv1
    iintro ⟨%hacc, Hb⟩
    have h0 := box_slotK1 _ (k0_off4_inb k) (by rw [k0_off4_eq]; rfl)
    have h1 := fun r : Fin 3 => box_slotK1 _ (k0_off5_inb k r) (by rw [k0_off5_eq]; rfl)
    have h2 := h1 0; have h3 := h1 1; have h4 := h1 2
    sl_exec
    sl_step
    isplitr
    · ipureintro
      exact pay_step (bit m d) (131072 * wid L) (512 * 1 + k.val) acc _ _ _ _ hacc
        (fun l => (box_read m d L _ (k0_off4_inb k) 1 (64 * k.val) (by rw [k0_off4_eq]; rfl) l).trans (by congr 2; omega))
        (fun l => (box_read m d L _ (k0_off5_inb k 0) 1 (64 * k.val + 16) (by rw [k0_off5_eq]; rfl) l).trans (by congr 2; omega))
        (fun l => (box_read m d L _ (k0_off5_inb k 1) 1 (64 * k.val + 32) (by rw [k0_off5_eq]; rfl) l).trans (by congr 2; omega))
        (fun l => (box_read m d L _ (k0_off5_inb k 2) 1 (64 * k.val + 48) (by rw [k0_off5_eq]; rfl) l).trans (by congr 2; omega))
    · iexact Hb
  · unfold inv1
    isplitr
    · ipureintro; intro l; exact hacc1 l
    · iexact Hb1x
  iintro %acc2 HI
  unfold inv1
  icases HI with ⟨%hacc2, Hb1⟩
  sl_exec (disch := exact View.amount_pos _ _ (show 0 < S32768.numel by decide))
  ihave Hb0x := (Entails.of_eq (landed (VT d L) (slotK0).view fullShare _ (SB m d L 2) (sums_body.sl.dma0_2 m d L) fun x => (slot_read0 m d L 2 x).trans (chunk_read m d L 2 x).symm)) $$ Hb0
  sl_for (inv0 m d L 2) $$ [Hb0x]
  case region =>
    intro k acc
    unfold inv0
    iintro ⟨%hacc, Hb⟩
    have h0 := box_slotK0 _ (k0_off6_inb k) (by rw [k0_off6_eq]; rfl)
    have h1 := fun r : Fin 3 => box_slotK0 _ (k0_off7_inb k r) (by rw [k0_off7_eq]; rfl)
    have h2 := h1 0; have h3 := h1 1; have h4 := h1 2
    sl_exec
    sl_step
    isplitr
    · ipureintro
      exact pay_step (bit m d) (131072 * wid L) (512 * 2 + k.val) acc _ _ _ _ hacc
        (fun l => (box_read m d L _ (k0_off6_inb k) 2 (64 * k.val) (by rw [k0_off6_eq]; rfl) l).trans (by congr 2; omega))
        (fun l => (box_read m d L _ (k0_off7_inb k 0) 2 (64 * k.val + 16) (by rw [k0_off7_eq]; rfl) l).trans (by congr 2; omega))
        (fun l => (box_read m d L _ (k0_off7_inb k 1) 2 (64 * k.val + 32) (by rw [k0_off7_eq]; rfl) l).trans (by congr 2; omega))
        (fun l => (box_read m d L _ (k0_off7_inb k 2) 2 (64 * k.val + 48) (by rw [k0_off7_eq]; rfl) l).trans (by congr 2; omega))
    · iexact Hb
  · unfold inv0
    isplitr
    · ipureintro; intro l; exact hacc2 l
    · iexact Hb0x
  iintro %acc3 HI
  unfold inv0
  icases HI with ⟨%hacc3, Hb0⟩
  sl_exec (disch := exact View.amount_pos _ _ (show 0 < S32768.numel by decide))
  ihave Hb1x := (Entails.of_eq (landed (VT d L) (slotK1).view fullShare _ (SB m d L 3) (sums_body.sl.dma0_3 m d L) fun x => (slot_read1 m d L 3 x).trans (chunk_read m d L 3 x).symm)) $$ Hb1
  sl_for (inv1 m d L 3) $$ [Hb1x Hbufs HC Hsems Hr' Ha' H0 H1 H2 H3 HA HB HO Hb0]
  case region =>
    intro k acc
    unfold inv1
    iintro ⟨%hacc, Hb⟩
    have h0 := box_slotK1 _ (k0_off8_inb k) (by rw [k0_off8_eq]; rfl)
    have h1 := fun r : Fin 3 => box_slotK1 _ (k0_off9_inb k r) (by rw [k0_off9_eq]; rfl)
    have h2 := h1 0; have h3 := h1 1; have h4 := h1 2
    sl_exec
    sl_step
    isplitr
    · ipureintro
      exact pay_step (bit m d) (131072 * wid L) (512 * 3 + k.val) acc _ _ _ _ hacc
        (fun l => (box_read m d L _ (k0_off8_inb k) 3 (64 * k.val) (by rw [k0_off8_eq]; rfl) l).trans (by congr 2; omega))
        (fun l => (box_read m d L _ (k0_off9_inb k 0) 3 (64 * k.val + 16) (by rw [k0_off9_eq]; rfl) l).trans (by congr 2; omega))
        (fun l => (box_read m d L _ (k0_off9_inb k 1) 3 (64 * k.val + 32) (by rw [k0_off9_eq]; rfl) l).trans (by congr 2; omega))
        (fun l => (box_read m d L _ (k0_off9_inb k 2) 3 (64 * k.val + 48) (by rw [k0_off9_eq]; rfl) l).trans (by congr 2; omega))
    · iexact Hb
  isplitl [Hb1x]
  · unfold inv1
    isplitr
    · ipureintro; intro l; exact hacc3 l
    · iexact Hb1x
  iintro %acc4 HI
  unfold inv1
  icases HI with ⟨%hacc4, Hb1⟩
  sl_exec (disch := exact View.amount_pos _ _ (show 0 < S16.numel by decide))
  have hrow : ∀ x : S16.Idx, View.read (Elt F) (rowK L).view (Sums m d) x = sums_body.sl.dma2 d L fa acc4 x := fun x =>
    (row_read m d L x).trans (Eq.trans (by
      have h := hacc4 (x 0)
      rw [show (ix1 (x 0) : S16.Idx) = x from (eq_ix1 x).symm] at h
      exact h.symm) (acc_read d L fa acc4 x).symm)
  ihave Hrx := (Entails.of_eq ((landed (VT d L) (rowK L).view fullShare _ (Sums m d) (sums_body.sl.dma2 d L fa acc4) hrow).trans (pts_rowK (F := F) d L _))) $$ Hr'
  sl_step
  isplitl [H0 H1 H2 H3 Hrx]
  · isplitl [H0 H1 H2 H3]
    · isplitl [H0]; · iexact H0
      isplitl [H1]; · iexact H1
      isplitl [H2]; · iexact H2
      iexact H3
    · iexact Hrx
  isplitl [Hb0 Hb1 Ha' Hbufs]
  · isplitl [Hb0 Hb1]
    · iapply (pts_slots' (F := F) d L (SB m d L 2) (SB m d L 3))
      isplitl [Hb0] <;> iassumption
    isplitl [Ha']; · iexists _; iexact Ha'
    iexact Hbufs
  isplitl [HA HB HC Hsems]
  · isplitl [HA]; · iexact HA
    isplitl [HB]; · iexact HB
    isplitl [HC]; · iexact HC
    iexact Hsems
  iexists _; isplitr
  swap; · iexact HO
  ipureintro; intro p hp
  simp only [Finset.mem_insert] at hp
  rcases hp with hp | hp | hp | hp | hp | hp
  all_goals first | exact .inl hp | exact .inr (hp ▸ rfl)

end Tile0

end Cert.Proof.Count

end
-- ==== Proof.Group.lean ====
/-
  One group of sixty-four words at the second call: four vectors packed a byte each into one, their running sums taken at once, and the
  four vectors of clamped counts and the next carry that come of it.
-/
module

public import proofs.«01_k».proof.Proof.Setup

@[expose] public section

noncomputable section

namespace Cert.Proof.Count

open Cert.KernelIdeal Cert.KernelIdeal.Gen
open Idealize.ShloMosaic Idealize.ShloMosaic.ValueIdx

/-! ## What the body computes for a group, as functions of the carry and the four vectors -/

section Defs

variable (y : BitVec 32) (a b c e : IVec S16 32)

def gpack : IVec S16 32 :=
  addi (addi a (shli b (broadcast S16 8#32))) (addi (shli c (broadcast S16 16#32)) (shli e (broadcast S16 24#32)))
def gincl : IVec S16 32 := scan .sum (gpack a b c e)
def gtot : BitVec 32 := extractAt ![15] (gincl a b c e) inpos_S16_p15
def gbef : BitVec 32 := Scalar.muli (gtot a b c e) 16843008#32
def gclamp (x : IVec S16 32) : IVec S16 32 := minsi (maxsi x (broadcast S16 0#32)) (broadcast S16 2097151#32)
def gout0 : IVec S16 32 := gclamp (addi (broadcast S16 y) (andi (gincl a b c e) (broadcast S16 255#32)))
def gout1 : IVec S16 32 :=
  gclamp (addi (broadcast S16 (Scalar.addi y (Scalar.andi (Scalar.shrsi (gbef a b c e) 8#32) 255#32)))
    (andi (shrsi (gincl a b c e) (broadcast S16 8#32)) (broadcast S16 255#32)))
def gout2 : IVec S16 32 :=
  gclamp (addi (broadcast S16 (Scalar.addi y (Scalar.andi (Scalar.shrsi (gbef a b c e) 16#32) 255#32)))
    (andi (shrsi (gincl a b c e) (broadcast S16 16#32)) (broadcast S16 255#32)))
def gout3 : IVec S16 32 :=
  gclamp (addi (broadcast S16 (Scalar.addi y (Scalar.shrsi (gbef a b c e) 24#32))) (shrsi (gincl a b c e) (broadcast S16 24#32)))
def gnext : BitVec 32 := Scalar.addi y (Scalar.addi (Scalar.shrsi (gbef a b c e) 24#32) (Scalar.shrsi (gtot a b c e) 24#32))

end Defs

/-! ## What they are when the vectors hold a stretch of zeros and ones -/

/-- The `n` terms of `B` from `o` on. -/
def run (B : ℕ → ℕ) (o n : ℕ) : ℕ := ∑ k ∈ Finset.range n, B (o + k)

theorem run_le (B : ℕ → ℕ) (hB : ∀ j, B j ≤ 1) (o n : ℕ) : run B o n ≤ n :=
  (Finset.sum_le_sum fun k _ => hB (o + k)).trans (by simp)
theorem upTo_run (B : ℕ → ℕ) (o n : ℕ) : upTo B (o + n) = upTo B o + run B o n := upTo_add B o n

/-- A count, less one, and some more: the longer count, less one. -/
theorem pre_add (n k : ℕ) : (BitVec.ofNat 32 n - 1#32) + BitVec.ofNat 32 k = BitVec.ofNat 32 (n + k) - 1#32 := by
  rw [BitVec.ofNat_add]
  generalize BitVec.ofNat 32 n = u; generalize BitVec.ofNat 32 k = v
  apply BitVec.eq_of_toNat_eq
  simp only [BitVec.toNat_add, BitVec.toNat_sub, BitVec.toNat_ofNat]
  omega

section Values

variable {B : ℕ → ℕ} (hB : ∀ j, B j ≤ 1) {q : ℕ} (hq : q + 64 ≤ 4194304) {y : BitVec 32} {a b c e : IVec S16 32}
  (hy : y = BitVec.ofNat 32 (upTo B q) - 1#32)
  (ha : ∀ l : Fin 16, a (ix1 l) = BitVec.ofNat 32 (B (q + l.val))) (hb : ∀ l : Fin 16, b (ix1 l) = BitVec.ofNat 32 (B (q + 16 + l.val)))
  (hc : ∀ l : Fin 16, c (ix1 l) = BitVec.ofNat 32 (B (q + 32 + l.val))) (he : ∀ l : Fin 16, e (ix1 l) = BitVec.ofNat 32 (B (q + 48 + l.val)))

include ha hb hc he in
theorem gincl_eq (l : Fin 16) :
    gincl a b c e (ix1 l)
      = BitVec.ofNat 32 (pack (run B q (l.val + 1)) (run B (q + 16) (l.val + 1)) (run B (q + 32) (l.val + 1)) (run B (q + 48) (l.val + 1))) := by
  unfold gincl run
  rw [scan_sum _ (fun k => pack (B (q + k)) (B (q + 16 + k)) (B (q + 32 + k)) (B (q + 48 + k))) (fun k => ?_) l, sum_pack]
  show IntOp.addi (IntOp.addi (a (ix1 k)) (IntOp.shli .vector (b (ix1 k)) 8#32))
    (IntOp.addi (IntOp.shli .vector (c (ix1 k)) 16#32) (IntOp.shli .vector (e (ix1 k)) 24#32)) = _
  rw [ha, hb, hc, he, pack_words]

include ha hb hc he in
theorem gtot_eq :
    gtot a b c e = BitVec.ofNat 32 (pack (run B q 16) (run B (q + 16) 16) (run B (q + 32) 16) (run B (q + 48) 16)) := by
  refine Eq.trans ?_ (gincl_eq ha hb hc he 15)
  unfold gtot extractAt
  congr 1
  funext i
  match i with | ⟨0, _⟩ => rfl

include ha hb hc he in
theorem gbef_eq :
    gbef a b c e
      = BitVec.ofNat 32 (pack 0 (run B q 16) (run B q 16 + run B (q + 16) 16) (run B q 16 + run B (q + 16) 16 + run B (q + 32) 16)) := by
  unfold gbef
  rw [gtot_eq ha hb hc he]
  exact pack_mul

theorem gclamp_eq (x : IVec S16 32) (l : Fin 16) (n : ℕ) (hn : n ≤ 4194304) (hx : x (ix1 l) = BitVec.ofNat 32 n - 1#32) :
    gclamp x (ix1 l) = outWord n := by
  show IntOp.minsi (IntOp.maxsi (x (ix1 l)) 0#32) 2097151#32 = _
  rw [hx]; exact clamp_eq n hn

include hB hq hy ha hb hc he

theorem gout0_eq (l : Fin 16) : gout0 y a b c e (ix1 l) = outWord (upTo B (q + l.val + 1)) := by
  have h := fun o => run_le B hB o (l.val + 1)
  have h' := fun o => run_le B hB o 16
  have hl := l.isLt
  have h0 := h' q; have h1 := h' (q + 16); have h2 := h' (q + 32)
  refine gclamp_eq _ l _ ((upTo_le B hB _).trans (by omega)) ?_
  show y + IntOp.andi (gincl a b c e (ix1 l)) 255#32 = _
  rw [gincl_eq ha hb hc he, byte0 ((h _).trans (by omega)) ((h _).trans (by omega)) ((h _).trans (by omega)) ((h _).trans (by omega)), hy, pre_add]
  have el := upTo_run B (q) (l.val + 1)
  congr 2
  simp only [Nat.add_assoc, Nat.reduceAdd] at *
  omega

theorem gout1_eq (l : Fin 16) : gout1 y a b c e (ix1 l) = outWord (upTo B (q + 16 + l.val + 1)) := by
  have h := fun o => run_le B hB o (l.val + 1)
  have h' := fun o => run_le B hB o 16
  have hl := l.isLt
  have h0 := h' q; have h1 := h' (q + 16); have h2 := h' (q + 32)
  refine gclamp_eq _ l _ ((upTo_le B hB _).trans (by omega)) ?_
  show (y + IntOp.andi (IntOp.shrsi .scalar (gbef a b c e) 8#32) 255#32) + IntOp.andi (IntOp.shrsi .vector (gincl a b c e (ix1 l)) 8#32) 255#32 = _
  rw [gincl_eq ha hb hc he, gbef_eq ha hb hc he, byte1 (by omega) (by omega) (by omega) (by omega), byte1 ((h _).trans (by omega)) ((h _).trans (by omega)) ((h _).trans (by omega)) ((h _).trans (by omega)), hy, pre_add, pre_add]
  have el := upTo_run B (q + 16) (l.val + 1)
  have e0 := upTo_run B (q) 16
  congr 2
  simp only [Nat.add_assoc, Nat.reduceAdd] at *
  omega

theorem gout2_eq (l : Fin 16) : gout2 y a b c e (ix1 l) = outWord (upTo B (q + 32 + l.val + 1)) := by
  have h := fun o => run_le B hB o (l.val + 1)
  have h' := fun o => run_le B hB o 16
  have hl := l.isLt
  have h0 := h' q; have h1 := h' (q + 16); have h2 := h' (q + 32)
  refine gclamp_eq _ l _ ((upTo_le B hB _).trans (by omega)) ?_
  show (y + IntOp.andi (IntOp.shrsi .scalar (gbef a b c e) 16#32) 255#32) + IntOp.andi (IntOp.shrsi .vector (gincl a b c e (ix1 l)) 16#32) 255#32 = _
  rw [gincl_eq ha hb hc he, gbef_eq ha hb hc he, byte2 (by omega) (by omega) (by omega) (by omega), byte2 ((h _).trans (by omega)) ((h _).trans (by omega)) ((h _).trans (by omega)) ((h _).trans (by omega)), hy, pre_add, pre_add]
  have el := upTo_run B (q + 32) (l.val + 1)
  have e0 := upTo_run B (q) 16
  have e1 := upTo_run B (q + 16) 16
  congr 2
  simp only [Nat.add_assoc, Nat.reduceAdd] at *
  omega

theorem gout3_eq (l : Fin 16) : gout3 y a b c e (ix1 l) = outWord (upTo B (q + 48 + l.val + 1)) := by
  have h := fun o => run_le B hB o (l.val + 1)
  have h' := fun o => run_le B hB o 16
  have hl := l.isLt
  have h0 := h' q; have h1 := h' (q + 16); have h2 := h' (q + 32)
  refine gclamp_eq _ l _ ((upTo_le B hB _).trans (by omega)) ?_
  show (y + IntOp.shrsi .scalar (gbef a b c e) 24#32) + IntOp.shrsi .vector (gincl a b c e (ix1 l)) 24#32 = _
  rw [gincl_eq ha hb hc he, gbef_eq ha hb hc he, byte3 (by omega) (by omega) (by omega) (by omega), byte3 ((h _).trans (by omega)) ((h _).trans (by omega)) ((h _).trans (by omega)) ((h _).trans (by omega)), hy, pre_add, pre_add]
  have el := upTo_run B (q + 48) (l.val + 1)
  have e0 := upTo_run B (q) 16
  have e1 := upTo_run B (q + 16) 16
  have e2 := upTo_run B (q + 32) 16
  congr 2
  simp only [Nat.add_assoc, Nat.reduceAdd] at *
  omega

theorem gnext_eq : gnext y a b c e = BitVec.ofNat 32 (upTo B (q + 64)) - 1#32 := by
  have h' := fun o => run_le B hB o 16
  have h0 := h' q; have h1 := h' (q + 16); have h2 := h' (q + 32); have h3 := h' (q + 48)
  have e0 := upTo_run B q 16; have e1 := upTo_run B (q + 16) 16; have e2 := upTo_run B (q + 32) 16; have e3 := upTo_run B (q + 48) 16
  have es : upTo B q + (run B q 16 + run B (q + 16) 16 + run B (q + 32) 16 + run B (q + 48) 16) = upTo B (q + 64) := by
    simp only [Nat.add_assoc, Nat.reduceAdd] at *
    omega
  have t : IntOp.shrsi .scalar (gtot a b c e) 24#32 = BitVec.ofNat 32 (run B (q + 48) 16) :=
    (congrArg (IntOp.shrsi .scalar · 24#32) (gtot_eq ha hb hc he)).trans (byte3 (by omega) (by omega) (by omega) (by omega) .scalar)
  have f : IntOp.shrsi .scalar (gbef a b c e) 24#32 = BitVec.ofNat 32 (run B q 16 + run B (q + 16) 16 + run B (q + 32) 16) :=
    (congrArg (IntOp.shrsi .scalar · 24#32) (gbef_eq ha hb hc he)).trans (byte3 (by omega) (by omega) (by omega) (by omega) .scalar)
  have g : gnext y a b c e = y + (IntOp.shrsi .scalar (gbef a b c e) 24#32 + IntOp.shrsi .scalar (gtot a b c e) 24#32) := rfl
  rw [g, t, f, ofNat_add', hy, pre_add, es]

end Values

end Cert.Proof.Count

end
-- ==== Proof.Scan.lean ====
/-
  The second call's tile: the count before its share from the lane sums of the tiles before it, then its four chunks one after another,
  each fetched, counted a group of sixty-four words at a time, clamped and written out.
-/
module

public import proofs.«01_k».proof.Proof.Sums
public import proofs.«01_k».proof.Proof.Group

@[expose] public section

noncomputable section

namespace Cert.Proof.Count

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "vV" => (Memref.whole Cert.KernelIdeal.main_v0_scv : Memref Cert.KernelIdeal.sig Kind.scVector Space.hbm Cert.KernelIdeal.S4194304 EltTy.i32)
local notation "sV" => (Memref.whole Cert.KernelIdeal.main_v1_scv : Memref Cert.KernelIdeal.sig Kind.scVector Space.hbm Cert.KernelIdeal.S32x16 EltTy.i32)
local notation "oV" => (Memref.whole Cert.KernelIdeal.main_v2_scv : Memref Cert.KernelIdeal.sig Kind.scVector Space.hbm Cert.KernelIdeal.S4194304 EltTy.i32)
local notation "mbV" => (Memref.whole Cert.KernelIdeal.cc1_scratch0 : Memref Cert.KernelIdeal.sig Kind.scVector Space.vmem Cert.KernelIdeal.S32768 EltTy.i32)
local notation "obV" => (Memref.whole Cert.KernelIdeal.cc1_scratch1 : Memref Cert.KernelIdeal.sig Kind.scVector Space.vmem Cert.KernelIdeal.S32768 EltTy.i32)
local notation "svV" => (Memref.whole Cert.KernelIdeal.cc1_scratch2 : Memref Cert.KernelIdeal.sig Kind.scVector Space.vmem Cert.KernelIdeal.S32x16 EltTy.i32)

variable (m : (ℓ : Loc nD τ sig) → Buf (Elt F) ℓ)
variable [FloatOps F]

section Tile1

variable (d : Dev nD) (L : grid1.Coords)

abbrev cW (L : grid1.Coords) : Fin τ.nSC := (L 0).castLE hcore1
abbrev jW (L : grid1.Coords) : Fin τ.nSub := (L 1).castLE hsub1
/-- The tile's number and its thread. -/
abbrev wid1 (L : grid1.Coords) : ℕ := tileNo (L 0).val (L 1).val
abbrev WT (d : Dev nD) (L : grid1.Coords) : Thread nD τ := V d (cW L) (jW L)

omit [FloatOps F] in
theorem wid1_lt : wid1 L < 32 := by
  have h0 : (L 0).val < 2 := (L 0).isLt
  have h1 : (L 1).val < 16 := (L 1).isLt
  simp only [wid1, tileNo]; omega

/-- Chunk `t` of the tile's words, and of its share of the result, as the body addresses them. -/
abbrev chunkI (L : grid1.Coords) (t : Fin k1_t2_loop.trips) : Memref sig .scVector .hbm S32768 .i32 :=
  (vV).slice (Rect.unit (s := S4194304) (k1_off2 L t) S32768.size (k1_off2_inb L t)) (fun _ => rfl)
abbrev chunkO (L : grid1.Coords) (t : Fin k1_t2_loop.trips) : Memref sig .scVector .hbm S32768 .i32 :=
  (oV).slice (Rect.unit (s := S4194304) (k1_off2 L t) S32768.size (k1_off2_inb L t)) (fun _ => rfl)

theorem off2_at (t : Fin k1_t2_loop.trips) : k1_off2 L t 0 = 131072 * wid1 L + 32768 * t.val := by
  rw [k1_off2_eq]; simp [wid1, tileNo]; omega

theorem mem_box2 (t : Fin k1_t2_loop.trips) (p : S4194304.Idx) :
    p ∈ (Rect.unit (s := S4194304) (k1_off2 L t) S32768.size (k1_off2_inb L t)).set ↔ p ∈ chunk (4 * wid1 L + t.val) := by
  rw [Rect.mem_set_unit, mem_chunk]
  have e := off2_at L t
  constructor
  · intro h; have := h 0; rw [e] at this; simp at this; omega
  · intro h a
    match a with
    | 0 => show k1_off2 L t 0 ≤ (p 0).val ∧ (p 0).val < k1_off2 L t 0 + 32768; omega
omit [FloatOps F] in
theorem set_chunkI (t : Fin k1_t2_loop.trips) : (chunkI L t).view.set = chunk (4 * wid1 L + t.val) := by
  show ((View.whole (main_v0_scv : Ref sig .scVector)).slice _).set = _
  rw [View.set_slice_whole]
  ext p; exact mem_box2 L t p
omit [FloatOps F] in
theorem set_chunkO (t : Fin k1_t2_loop.trips) : (chunkO L t).view.set = chunk (4 * wid1 L + t.val) := by
  show ((View.whole (main_v2_scv : Ref sig .scVector)).slice _).set = _
  rw [View.set_slice_whole]
  ext p; exact mem_box2 L t p

/-- The result's share before trip `n`: its first `n` chunks filled, the others as at the start. -/
def oPart (n : ℕ) : sProp 𝕄 :=
  bigSep (Finset.range 4) fun r => oLoc d ↦[chunk (4 * wid1 L + r)]{fullShare} (if r < n then Out m d else m (oLoc d))

theorem trips2 (t : Fin k1_t2_loop.trips) : t.val < 4 := lt_of_lt_of_le t.isLt k1_t2_abs.2.1
theorem trips3 (k : Fin k1_t3_loop.trips) : k.val < 128 := lt_of_lt_of_le k.isLt k1_t3_abs.2.1
theorem trips1 (k : Fin k1_t1_loop.trips) : k.val < 32 := lt_of_lt_of_le k.isLt k1_t1_abs.2.1

omit [FloatOps F] in
/-- The words' chunk at trip `t`, and the other three. -/
theorem vBlk_take (t : Fin k1_t2_loop.trips) :
    (vBlk m d (wid1 L) : sProp 𝕄)
      = iprop(((chunkI L t).view.loc (WT d L) ↦[(chunkI L t).view.set]{fullShare} X m d)
          ∗ bigSep ((Finset.range 4).erase t.val) fun r => vLoc d ↦[chunk (4 * wid1 L + r)]{fullShare} X m d) := by
  unfold vBlk
  rw [SparseCore.bigSep_erase' (Finset.mem_range.mpr (trips2 t)), set_chunkI]
omit [FloatOps F] in
theorem oPart_take (t : Fin k1_t2_loop.trips) :
    (oPart m d L t.val : sProp 𝕄)
      = iprop(((chunkO L t).view.loc (WT d L) ↦[(chunkO L t).view.set]{fullShare} m (oLoc d))
          ∗ bigSep ((Finset.range 4).erase t.val) fun r => oLoc d ↦[chunk (4 * wid1 L + r)]{fullShare} (if r < t.val then Out m d else m (oLoc d))) := by
  unfold oPart
  rw [SparseCore.bigSep_erase' (Finset.mem_range.mpr (trips2 t)), set_chunkO, if_neg (Nat.lt_irrefl _)]
omit [FloatOps F] in
theorem oPart_put (t : Fin k1_t2_loop.trips) :
    (oPart m d L (t.val + 1) : sProp 𝕄)
      = iprop(((chunkO L t).view.loc (WT d L) ↦[(chunkO L t).view.set]{fullShare} Out m d)
          ∗ bigSep ((Finset.range 4).erase t.val) fun r => oLoc d ↦[chunk (4 * wid1 L + r)]{fullShare} (if r < t.val then Out m d else m (oLoc d))) := by
  unfold oPart
  rw [SparseCore.bigSep_erase' (Finset.mem_range.mpr (trips2 t)), set_chunkO, if_pos (Nat.lt_succ_self _)]
  refine congrArg (BI.sep _) (bigSep_congr fun r hr => ?_)
  have hne := (Finset.mem_erase.mp hr).1
  by_cases h : r < t.val
  · rw [if_pos h, if_pos (by omega)]
  · rw [if_neg h, if_neg (by omega)]
omit [FloatOps F] in
theorem oPart_zero : (oPart m d L 0 : sProp 𝕄) = oBlk d (wid1 L) (m (oLoc d)) := by
  unfold oPart oBlk
  exact bigSep_congr fun r _ => by rw [if_neg (Nat.not_lt_zero _)]
omit [FloatOps F] in
theorem oPart_four : (oPart m d L 4 : sProp 𝕄) = oBlk d (wid1 L) (Out m d) := by
  unfold oPart oBlk
  exact bigSep_congr fun r hr => by rw [if_pos (Finset.mem_range.mp hr)]

/-- What the three scratches hold: the chunk fetched at trip `t`, the chunk to write out then, the lane sums. -/
def MB (t : ℕ) : Buf (Elt F) ((WT d L).loc cc1_scratch0) :=
  fun p : S32768.Idx => BitVec.ofNat 32 (bit m d (131072 * wid1 L + 32768 * t + (p 0).val))
def OB (t : ℕ) : Buf (Elt F) ((WT d L).loc cc1_scratch1) :=
  fun p : S32768.Idx => outWord (upTo (bit m d) (131072 * wid1 L + 32768 * t + (p 0).val + 1))
def SVB : Buf (Elt F) ((WT d L).loc cc1_scratch2) :=
  fun p : S32x16.Idx => BitVec.ofNat 32 (lane (bit m d) (131072 * (p 0).val) 8192 (p 1).val)

theorem chunkI_read (t : Fin k1_t2_loop.trips) (x : S32768.Idx) :
    View.read (Elt F) (chunkI L t).view (X m d) x = BitVec.ofNat 32 (bit m d (131072 * wid1 L + 32768 * t.val + (x 0).val)) := by
  show BitVec.ofNat 32 (bit m d (k1_off2 L t 0 + 1 * (x 0).val)) = _
  rw [off2_at, one_mul]
theorem chunkO_read (t : Fin k1_t2_loop.trips) (x : S32768.Idx) :
    View.read (Elt F) (chunkO L t).view (Out m d) x = outWord (upTo (bit m d) (131072 * wid1 L + 32768 * t.val + (x 0).val + 1)) := by
  show outWord (upTo (bit m d) (k1_off2 L t 0 + 1 * (x 0).val + 1)) = _
  rw [off2_at, one_mul]

/-- Sixteen words of the fetched chunk, read at position `o`. -/
theorem mb_read (t : ℕ) (off : Fin 1 → ℕ) (inb) (o : ℕ) (h : off 0 = o) (l : Fin 16) :
    View.readAt (Elt F) (mbV).view (Rect.unit (s := S32768) off S16.size inb).toLoadRect (MB m d L t) (ix1 l)
      = BitVec.ofNat 32 (bit m d (131072 * wid1 L + 32768 * t + o + l.val)) := by
  subst h
  show BitVec.ofNat 32 (bit m d (131072 * wid1 L + 32768 * t + (off 0 + 1 * l.val))) = _
  rw [one_mul, Nat.add_assoc, Nat.add_assoc, Nat.add_assoc]

/-- One row of the lane sums. -/
theorem sv_read (k : Fin k1_t1_loop.trips) (l : Fin 16) :
    View.readAt (Elt F) (svV).view (Rect.unit (s := S32x16) (k1_off1 k) S1x16.size (k1_off1_inb k)).toLoadRect (SVB m d L) (Fin.cons ⟨0, Nat.one_pos⟩ (ix1 l))
      = BitVec.ofNat 32 (lane (bit m d) (131072 * k.val) 8192 l.val) := by
  show BitVec.ofNat 32 (lane (bit m d) (131072 * (k1_off1 k 0 + 1 * 0)) 8192 (k1_off1 k 1 + 1 * l.val)) = _
  have e0 : k1_off1 k 0 = k.val := by rw [k1_off1_eq]; rfl
  have e1 : k1_off1 k 1 = 0 := by rw [k1_off1_eq]; rfl
  rw [e0, e1]; simp

/-- Whether a row lies before the tile's own, as the word the body multiplies it by. -/
theorem row_bit : ∀ (a : Fin 2) (b : Fin 16) (k : Fin 32),
    Scalar.extui (Scalar.cmpi .slt (Scf.iv 0#32 1#32 k.val) (Scalar.addi (Scalar.muli (BitVec.ofNat 32 a.val) 16#32) (BitVec.ofNat 32 b.val)))
      = (BitVec.ofNat 32 (if k.val < 16 * a.val + b.val then 1 else 0) : BitVec 32) := by decide +kernel

/-- One trip over the rows: row `k` is added when it lies before the tile's own. -/
theorem row_step (k : Fin k1_t1_loop.trips) (acc : IVec S16 32) (row : Vec F S1x16 .i32)
    (hacc : ∀ l : Fin 16, acc (ix1 l) = BitVec.ofNat 32 (lane (bit m d) 0 (8192 * min k.val (wid1 L)) l.val))
    (hrow : ∀ l : Fin 16, row (Fin.cons ⟨0, Nat.one_pos⟩ (ix1 l)) = BitVec.ofNat 32 (lane (bit m d) (131072 * k.val) 8192 l.val)) (l : Fin 16) :
    k1_pay2 L k acc row (ix1 l) = BitVec.ofNat 32 (lane (bit m d) 0 (8192 * min (k.val + 1) (wid1 L)) l.val) := by
  have er := (shapeCast_dropUnit_apply ![16] row shapeCasts_S1x16_S16 (ix1 l)).trans (hrow l)
  have hk := trips1 k
  have hw := wid1_lt L
  have h0 : (L 0).val < 2 := (L 0).isLt
  have h1 : (L 1).val < 16 := (L 1).isLt
  have ec : Scalar.extui (Scalar.cmpi .slt (Scf.iv 0#32 1#32 k) (Scalar.addi (Scalar.muli (BitVec.ofNat 32 (L 0).val) 16#32) (BitVec.ofNat 32 (L 1).val)))
      = (BitVec.ofNat 32 (if k.val < wid1 L then 1 else 0) : BitVec 32) := by
    have := row_bit ⟨(L 0).val, h0⟩ ⟨(L 1).val, h1⟩ ⟨k.val, hk⟩
    exact this
  show acc (ix1 l) + shapeCast S16 row shapeCasts_S1x16_S16 (ix1 l)
    * (Scalar.extui (Scalar.cmpi .slt (Scf.iv 0#32 1#32 k) (Scalar.addi (Scalar.muli (BitVec.ofNat 32 (L 0).val) 16#32) (BitVec.ofNat 32 (L 1).val))) : BitVec 32) = _
  rw [ec, hacc]
  erw [er]
  by_cases h : k.val < wid1 L
  · rw [if_pos h, show min (k.val + 1) (wid1 L) = k.val + 1 by omega, show min k.val (wid1 L) = k.val by omega, Nat.mul_succ, lane_add, BitVec.mul_one,
      ofNat_add', show 0 + 16 * (8192 * k.val) = 131072 * k.val by ring]
  · rw [if_neg h, show min (k.val + 1) (wid1 L) = wid1 L by omega, show min k.val (wid1 L) = wid1 L by omega]
    simp

/-- The count before the tile's share, less one. -/
theorem carry0_eq (acc : IVec S16 32) (hacc : ∀ l : Fin 16, acc (ix1 l) = BitVec.ofNat 32 (lane (bit m d) 0 (8192 * wid1 L) l.val)) :
    Scalar.subi (extractAt ![15] (k1_pay3 acc) inpos_S16_p15) 1#32 = BitVec.ofNat 32 (upTo (bit m d) (131072 * wid1 L + 32768 * 0)) - 1#32 := by
  have e : extractAt ![15] (k1_pay3 acc) inpos_S16_p15 = scan .sum acc (ix1 (15 : Fin 16)) := by
    have e' : (k1_pay3 acc : IVec S16 32) = scan .sum acc := rfl
    rw [e']
    unfold extractAt
    congr 1
    funext i
    match i with | ⟨0, _⟩ => rfl
  rw [e, scan_sum acc (fun l => lane (bit m d) 0 (8192 * wid1 L) l) hacc 15]
  show BitVec.ofNat 32 (∑ l ∈ Finset.range 16, lane (bit m d) 0 (8192 * wid1 L) l) - 1#32 = _
  rw [sum_lane_tile]; rfl

/-! ## The tile's own semaphores and buffers at this call -/

omit [FloatOps F] in
theorem sems_V1 :
    (ownSems0 (WT d L) : sProp 𝕄)
      = iprop(semVal (WT d L, SemLoc.dma cc1_scoped0.sem) 0 ∗ semVal (WT d L, SemLoc.dma cc1_scoped1.sem) 0 ∗ semVal (WT d L, SemLoc.dma cc1_scoped2.sem) 0
          ∗ bigSep ((((ownCells (WT d L)).erase (WT d L, SemLoc.dma cc1_scoped0.sem)).erase (WT d L, SemLoc.dma cc1_scoped1.sem)).erase
              (WT d L, SemLoc.dma cc1_scoped2.sem)) fun g => semVal g 0) :=
  take3 (mem_ownCells.mpr ⟨rfl, by show (SemLoc.dma cc1_scoped0.sem : SemLoc sig).isScoped .scVector = true; decide⟩)
    (mem_ownCells.mpr ⟨rfl, by show (SemLoc.dma cc1_scoped1.sem : SemLoc sig).isScoped .scVector = true; decide⟩)
    (mem_ownCells.mpr ⟨rfl, by show (SemLoc.dma cc1_scoped2.sem : SemLoc sig).isScoped .scVector = true; decide⟩)
    (fun e => absurd (congrArg Prod.snd e) (show (SemLoc.dma cc1_scoped1.sem : SemLoc sig) ≠ SemLoc.dma cc1_scoped0.sem by decide))
    (fun e => absurd (congrArg Prod.snd e) (show (SemLoc.dma cc1_scoped2.sem : SemLoc sig) ≠ SemLoc.dma cc1_scoped0.sem by decide))
    (fun e => absurd (congrArg Prod.snd e) (show (SemLoc.dma cc1_scoped2.sem : SemLoc sig) ≠ SemLoc.dma cc1_scoped1.sem by decide))

omit [FloatOps F] in
theorem bufs_V1 :
    (ownBufs (WT d L) : sProp 𝕄)
      = iprop((∃ f, (WT d L).loc cc1_scratch0 ↦{fullShare} f) ∗ (∃ f, (WT d L).loc cc1_scratch1 ↦{fullShare} f)
          ∗ (∃ f, (WT d L).loc cc1_scratch2 ↦{fullShare} f)
          ∗ bigSep ((((ownRefs (τ := τ) (.scVector (cW L) (jW L))).erase ((Proc.scVector (cW L) (jW L)).devRef cc1_scratch0)).erase
              ((Proc.scVector (cW L) (jW L)).devRef cc1_scratch1)).erase
              ((Proc.scVector (cW L) (jW L)).devRef cc1_scratch2)) fun b => iprop(∃ f, ((d, b) : Loc nD τ sig) ↦{fullShare} f)) :=
  take3 (SparseCore.Cfg.mem_ownRefs_of_owner (p := Proc.scVector (cW L) (jW L)) (b := (Proc.scVector (cW L) (jW L)).devRef cc1_scratch0) rfl)
    (SparseCore.Cfg.mem_ownRefs_of_owner (p := Proc.scVector (cW L) (jW L)) (b := (Proc.scVector (cW L) (jW L)).devRef cc1_scratch1) rfl)
    (SparseCore.Cfg.mem_ownRefs_of_owner (p := Proc.scVector (cW L) (jW L)) (b := (Proc.scVector (cW L) (jW L)).devRef cc1_scratch2) rfl)
    (fun e => absurd (Proc.devRef_injective _ e) (show (cc1_scratch1 : Ref sig .scVector) ≠ cc1_scratch0 by decide))
    (fun e => absurd (Proc.devRef_injective _ e) (show (cc1_scratch2 : Ref sig .scVector) ≠ cc1_scratch0 by decide))
    (fun e => absurd (Proc.devRef_injective _ e) (show (cc1_scratch2 : Ref sig .scVector) ≠ cc1_scratch1 by decide))

/-! ## The loops' invariants -/

/-- Before trip `k` over the rows. -/
def invR (k : ℕ) (acc : IVec S16 32) : sProp 𝕄 :=
  iprop(⌜∀ l : Fin 16, acc (ix1 l) = BitVec.ofNat 32 (lane (bit m d) 0 (8192 * min k (wid1 L)) l.val)⌝
    ∗ ((svV).view.loc (WT d L) ↦[(svV).view.set]{fullShare} SVB m d L))

/-- Before trip `k` over chunk `t`: the carry is the count so far less one, the first `256 k` results are there. -/
def invG (t : ℕ) (k : ℕ) (y : BitVec 32) : sProp 𝕄 :=
  iprop(⌜y = BitVec.ofNat 32 (upTo (bit m d) (131072 * wid1 L + 32768 * t + 256 * k)) - 1#32⌝
    ∗ ((mbV).view.loc (WT d L) ↦[(mbV).view.set]{fullShare} MB m d L t)
    ∗ ∃ f : Buf (Elt F) ((WT d L).loc cc1_scratch1), ⌜∀ p : S32768.Idx, (p 0).val < 256 * k → f p = OB m d L t p⌝
      ∗ ((obV).view.loc (WT d L) ↦[(obV).view.set]{fullShare} f))

/-- Before trip `t` over the chunks. -/
def invC (O : CellTallies nD τ sig (HIx 2)) (W : Waits sig (HIx 2)) (t : ℕ) (y : BitVec 32) : sProp 𝕄 :=
  iprop(⌜y = BitVec.ofNat 32 (upTo (bit m d) (131072 * wid1 L + 32768 * t)) - 1#32⌝
    ∗ vBlk m d (wid1 L) ∗ oPart m d L t
    ∗ (∃ f, (mbV).view.loc (WT d L) ↦[(mbV).view.set]{fullShare} f) ∗ (∃ f, (obV).view.loc (WT d L) ↦[(obV).view.set]{fullShare} f)
    ∗ semVal (WT d L, SemLoc.dma cc1_scoped1.sem) 0 ∗ semVal (WT d L, SemLoc.dma cc1_scoped2.sem) 0
    ∗ Transfers.MayWaits (WT d L) (default : HIx 2) O ∗ ∃ W', ⌜∀ p ∈ W', p ∈ W ∨ p.2 = none⌝ ∗ owes (WT d L) O W')

/-- One more store of sixteen results, right after those already there. -/
theorem store_step (t : ℕ) (f : Buf (Elt F) ((WT d L).loc cc1_scratch1)) (Lst : List (View.Piece (Elt F) S32768 .i32)) (off : Fin 1 → ℕ) (inb) (w : IVec S16 32) (o : ℕ)
    (ho : off 0 = o) (hw : ∀ l : Fin 16, w (ix1 l) = outWord (upTo (bit m d) (131072 * wid1 L + 32768 * t + o + l.val + 1)))
    (h : ∀ p : S32768.Idx, (p 0).val < o → (obV).view.writes (Elt F) f Lst p = OB m d L t p) (p : S32768.Idx) (hp : (p 0).val < o + 16) :
    (obV).view.writes (Elt F) f (⟨Rect.unit (s := S32768) off S16.size inb, w⟩ :: Lst) p = OB m d L t p := by
  by_cases hlt : (p 0).val < o
  · have e := View.read_writes_cons_miss_of_axis (obV).view f ⟨Rect.unit (s := S32768) off S16.size inb, w⟩ Lst p 0 o 16 ho rfl rfl (.inl hlt)
    exact e.trans (h p hlt)
  · have e := View.read_writes_cons_hit_of_coords (obV).view f (Rect.unit (s := S32768) off S16.size inb) w Lst (ix1 ⟨(p 0).val - o, by omega⟩) p
      fun a => by
        match a with
        | 0 => show (p 0).val = off 0 + 1 * ((p 0).val - o); omega
    refine Eq.trans e ((hw _).trans ?_)
    show outWord (upTo (bit m d) (131072 * wid1 L + 32768 * t + o + ((p 0).val - o) + 1)) = outWord (upTo (bit m d) (131072 * wid1 L + 32768 * t + (p 0).val + 1))
    congr 3; omega

/-- The four vectors of group `r` of trip `k`: the first, and the other three. -/
def ld3 (t : ℕ) (k : Fin k1_t3_loop.trips) (r : Fin 4) : IVec S16 32 :=
  View.readAt (Elt F) (mbV).view (Rect.unit (s := S32768) (k1_off3 k (BitVec.ofNat 32 r.val)) S16.size (k1_off3_inb k r)).toLoadRect (MB m d L t)
def ld4 (t : ℕ) (k : Fin k1_t3_loop.trips) (r : Fin 4) (j : Fin 3) : IVec S16 32 :=
  View.readAt (Elt F) (mbV).view (Rect.unit (s := S32768) (k1_off4 k (BitVec.ofNat 32 r.val) (BitVec.ofNat 32 (1 + j.val))) S16.size (k1_off4_inb k r j)).toLoadRect
    (MB m d L t)

/-- The position of group `r` of trip `k` over chunk `t`. -/
abbrev gpos (t : ℕ) (k : ℕ) (r : ℕ) : ℕ := 131072 * wid1 L + 32768 * t + (256 * k + 64 * r)

theorem off3_at (k : Fin k1_t3_loop.trips) (r : Fin 4) : k1_off3 k (BitVec.ofNat 32 r.val) 0 = 256 * k.val + 64 * r.val := by rw [k1_off3_eq]; rfl
theorem off4_at (k : Fin k1_t3_loop.trips) (r : Fin 4) (j : Fin 3) :
    k1_off4 k (BitVec.ofNat 32 r.val) (BitVec.ofNat 32 (1 + j.val)) 0 = 256 * k.val + 64 * r.val + 16 * j.val + 16 := by rw [k1_off4_eq]; rfl

theorem ld3_eq (t : ℕ) (k : Fin k1_t3_loop.trips) (r : Fin 4) (l : Fin 16) :
    ld3 m d L t k r (ix1 l) = BitVec.ofNat 32 (bit m d (gpos L t k.val r.val + l.val)) :=
  mb_read m d L t _ (k1_off3_inb k r) _ (off3_at k r) l
theorem ld4_eq (t : ℕ) (k : Fin k1_t3_loop.trips) (r : Fin 4) (j : Fin 3) (l : Fin 16) :
    ld4 m d L t k r j (ix1 l) = BitVec.ofNat 32 (bit m d (gpos L t k.val r.val + (16 * j.val + 16) + l.val)) :=
  (mb_read m d L t _ (k1_off4_inb k r j) _ (off4_at k r j) l).trans (by congr 2; simp only [gpos]; omega)

/-- The carry after group `r` of trip `k` from the carry before it. -/
abbrev gnx (t : ℕ) (k : Fin k1_t3_loop.trips) (r : Fin 4) (z : BitVec 32) : BitVec 32 :=
  gnext z (ld3 m d L t k r) (ld4 m d L t k r 0) (ld4 m d L t k r 1) (ld4 m d L t k r 2)

section Trip

variable {t : ℕ} (ht : t < 4) (k : Fin k1_t3_loop.trips)

include ht in
theorem gpos_le (r : Fin 4) : gpos L t k.val r.val + 64 ≤ 4194304 := by
  have := wid1_lt L; have := trips3 k; have := r.isLt
  simp only [gpos]; omega

variable (r : Fin 4) {z : BitVec 32} (hz : z = BitVec.ofNat 32 (upTo (bit m d) (gpos L t k.val r.val)) - 1#32)

include ht hz

theorem gnx_eq : gnx m d L t k r z = BitVec.ofNat 32 (upTo (bit m d) (gpos L t k.val (r.val + 1))) - 1#32 :=
  (gnext_eq (bit_le m d) (gpos_le L ht k r) hz (ld3_eq m d L t k r) (ld4_eq m d L t k r 0) (ld4_eq m d L t k r 1) (ld4_eq m d L t k r 2)).trans
    (by congr 3)

/-- The four vectors of results of group `r`, at the positions they are stored to. -/
theorem g0 (l : Fin 16) : gout0 z (ld3 m d L t k r) (ld4 m d L t k r 0) (ld4 m d L t k r 1) (ld4 m d L t k r 2) (ix1 l)
    = outWord (upTo (bit m d) (131072 * wid1 L + 32768 * t + (256 * k.val + 64 * r.val) + l.val + 1)) :=
  gout0_eq (bit_le m d) (gpos_le L ht k r) hz (ld3_eq m d L t k r) (ld4_eq m d L t k r 0) (ld4_eq m d L t k r 1) (ld4_eq m d L t k r 2) l
theorem g1 (l : Fin 16) : gout1 z (ld3 m d L t k r) (ld4 m d L t k r 0) (ld4 m d L t k r 1) (ld4 m d L t k r 2) (ix1 l)
    = outWord (upTo (bit m d) (131072 * wid1 L + 32768 * t + (256 * k.val + 64 * r.val + 16) + l.val + 1)) :=
  gout1_eq (bit_le m d) (gpos_le L ht k r) hz (ld3_eq m d L t k r) (ld4_eq m d L t k r 0) (ld4_eq m d L t k r 1) (ld4_eq m d L t k r 2) l
theorem g2 (l : Fin 16) : gout2 z (ld3 m d L t k r) (ld4 m d L t k r 0) (ld4 m d L t k r 1) (ld4 m d L t k r 2) (ix1 l)
    = outWord (upTo (bit m d) (131072 * wid1 L + 32768 * t + (256 * k.val + 64 * r.val + 32) + l.val + 1)) :=
  gout2_eq (bit_le m d) (gpos_le L ht k r) hz (ld3_eq m d L t k r) (ld4_eq m d L t k r 0) (ld4_eq m d L t k r 1) (ld4_eq m d L t k r 2) l
theorem g3 (l : Fin 16) : gout3 z (ld3 m d L t k r) (ld4 m d L t k r 0) (ld4 m d L t k r 1) (ld4 m d L t k r 2) (ix1 l)
    = outWord (upTo (bit m d) (131072 * wid1 L + 32768 * t + (256 * k.val + 64 * r.val + 48) + l.val + 1)) :=
  gout3_eq (bit_le m d) (gpos_le L ht k r) hz (ld3_eq m d L t k r) (ld4_eq m d L t k r 0) (ld4_eq m d L t k r 1) (ld4_eq m d L t k r 2) l

end Trip

/-- One trip over a chunk: four groups. -/
theorem group_trip (t : ℕ) (ht : t < 4) (k : Fin k1_t3_loop.trips) (y : BitVec 32) :
    invG (F := F) m d L t k.val y
      ⊢ wp frame (wpE (defs₀ (F := F)) 𝒱₀ (WT d L) none) Set.univ
          (k1_t3_body L vV (Memref.isWhole_whole _) sV (Memref.isWhole_whole _) oV (Memref.isWhole_whole _) mbV (Memref.isWhole_whole _)
            obV (Memref.isWhole_whole _) svV (Memref.isWhole_whole _) cc1_scoped0 cc1_scoped1 cc1_scoped2 k y)
          fun y' => invG (F := F) m d L t (k.val + 1) y' := by
  unfold invG k1_t3_body
  rw [k1_part1_eq_skeleton]; unfold k1_part1_skel
  rw [k1_part2_eq_skeleton]; unfold k1_part2_skel
  iintro ⟨%hy, Hm, %f, %hf, Hob⟩
  sl_exec
  sl_step
  have h0 : y = BitVec.ofNat 32 (upTo (bit m d) (gpos L t k.val (0 : Fin 4).val)) - 1#32 := hy
  have h1 := gnx_eq m d L ht k 0 h0
  have h2 := gnx_eq m d L ht k 1 h1
  have h3 := gnx_eq m d L ht k 2 h2
  isplitr
  · ipureintro
    exact gnx_eq m d L ht k 3 h3
  isplitl [Hm]; · iexact Hm
  iexists _
  isplitr
  swap; · iexact Hob
  ipureintro
  exact store_step m d L t f _ _ (k1_off4_inb k 3 2) _ _ (off4_at k 3 2) (g3 m d L ht k 3 h3)
    (store_step m d L t f _ _ (k1_off4_inb k 3 1) _ _ (off4_at k 3 1) (g2 m d L ht k 3 h3)
    (store_step m d L t f _ _ (k1_off4_inb k 3 0) _ _ (off4_at k 3 0) (g1 m d L ht k 3 h3)
    (store_step m d L t f _ _ (k1_off3_inb k 3) _ _ (off3_at k 3) (g0 m d L ht k 3 h3)
    (store_step m d L t f _ _ (k1_off4_inb k 2 2) _ _ (off4_at k 2 2) (g3 m d L ht k 2 h2)
    (store_step m d L t f _ _ (k1_off4_inb k 2 1) _ _ (off4_at k 2 1) (g2 m d L ht k 2 h2)
    (store_step m d L t f _ _ (k1_off4_inb k 2 0) _ _ (off4_at k 2 0) (g1 m d L ht k 2 h2)
    (store_step m d L t f _ _ (k1_off3_inb k 2) _ _ (off3_at k 2) (g0 m d L ht k 2 h2)
    (store_step m d L t f _ _ (k1_off4_inb k 1 2) _ _ (off4_at k 1 2) (g3 m d L ht k 1 h1)
    (store_step m d L t f _ _ (k1_off4_inb k 1 1) _ _ (off4_at k 1 1) (g2 m d L ht k 1 h1)
    (store_step m d L t f _ _ (k1_off4_inb k 1 0) _ _ (off4_at k 1 0) (g1 m d L ht k 1 h1)
    (store_step m d L t f _ _ (k1_off3_inb k 1) _ _ (off3_at k 1) (g0 m d L ht k 1 h1)
    (store_step m d L t f _ _ (k1_off4_inb k 0 2) _ _ (off4_at k 0 2) (g3 m d L ht k 0 h0)
    (store_step m d L t f _ _ (k1_off4_inb k 0 1) _ _ (off4_at k 0 1) (g2 m d L ht k 0 h0)
    (store_step m d L t f _ _ (k1_off4_inb k 0 0) _ _ (off4_at k 0 0) (g1 m d L ht k 0 h0)
    (store_step m d L t f _ _ (k1_off3_inb k 0) _ _ (off3_at k 0) (g0 m d L ht k 0 h0)
    hf)))))))))))))))

/-- One trip over the chunks: the chunk fetched, counted and written out. -/
theorem chunk_trip (O : CellTallies nD τ sig (HIx 2)) (W : Waits sig (HIx 2)) (t : Fin k1_t2_loop.trips) (y : BitVec 32) :
    invC (F := F) m d L O W t.val y
      ⊢ wp frame (wpE (defs₀ (F := F)) 𝒱₀ (WT d L) none) Set.univ
          (k1_t2_body L vV (Memref.isWhole_whole _) sV (Memref.isWhole_whole _) oV (Memref.isWhole_whole _) mbV (Memref.isWhole_whole _)
            obV (Memref.isWhole_whole _) svV (Memref.isWhole_whole _) cc1_scoped0 cc1_scoped1 cc1_scoped2 t y)
          fun y' => invC (F := F) m d L O W (t.val + 1) y' := by
  unfold invC k1_t2_body
  rw [oPart_put, vBlk_take m d L t, oPart_take]
  iintro ⟨%hy, ⟨Hv, Hvs⟩, ⟨Ho, Hos⟩, ⟨%fm, Hm⟩, ⟨%fo, Hob⟩, HB, HC, Hmw, %W', %hW, HO⟩
  sl_exec (disch := exact View.amount_pos _ _ (show 0 < S32768.numel by decide))
  have hmb : ∀ x : S32768.Idx, View.read (Elt F) (mbV).view (MB m d L t.val) x = chunk_trip.sl.dma0 m d L t x := fun x => (chunkI_read m d L t x).symm
  ihave Hmx := (Entails.of_eq (landed (WT d L) (mbV).view fullShare _ (MB m d L t.val) (chunk_trip.sl.dma0 m d L t) hmb)) $$ Hm
  sl_for (invG m d L t.val) $$ [Hmx Hob]
  case region =>
    intro k z
    exact group_trip m d L t.val (trips2 t) k z
  · unfold invG
    isplitr
    · ipureintro; exact hy
    isplitl [Hmx]; · iexact Hmx
    iexists _; isplitr
    swap; · iexact Hob
    ipureintro; intro p hp; exact absurd hp (Nat.not_lt_zero _)
  iintro %z HI
  unfold invG
  icases HI with ⟨%hz, Hm, %f, %hf, Hob⟩
  sl_exec (disch := exact View.amount_pos _ _ (show 0 < S32768.numel by decide))
  have h3 : Scf.trips k1_t3_loop.lb k1_t3_loop.ub k1_t3_loop.st = 128 := by decide
  rw [h3] at hz hf
  have hout : ∀ x : S32768.Idx, View.read (Elt F) (chunkO L t).view (Out m d) x = chunk_trip.sl.dma0_1 d L f x := fun x =>
    (chunkO_read m d L t x).trans (hf x (x 0).isLt).symm
  ihave Hox := (Entails.of_eq (landed (WT d L) (chunkO L t).view fullShare _ (Out m d) (chunk_trip.sl.dma0_1 d L f) hout)) $$ Ho
  sl_step
  isplitr
  · ipureintro
    have e : 131072 * wid1 L + 32768 * t.val + 256 * 128 = 131072 * wid1 L + 32768 * (t.val + 1) := by omega
    rw [hz, e]
  isplitl [Hv Hvs]
  · isplitl [Hv]; · iexact Hv
    iexact Hvs
  isplitl [Hox Hos]
  · isplitl [Hox]; · iexact Hox
    iexact Hos
  isplitl [Hm]; · iexists _; iexact Hm
  isplitl [Hob]; · iexists _; iexact Hob
  isplitl [HB]; · iexact HB
  isplitl [HC]; · iexact HC
  isplitl [Hmw]; · iexact Hmw
  iexists _; isplitr
  swap; · iexact HO
  ipureintro; intro p hp
  simp only [Finset.mem_insert] at hp
  rcases hp with hp | hp | hp
  · exact .inr (hp ▸ rfl)
  · exact .inr (hp ▸ rfl)
  · exact hW p hp

/-- The tile's work at the second call. -/
theorem scan_body (hF : (K (F := F)).Facts) (O : CellTallies nD τ sig (HIx 2)) (W : Waits sig (HIx 2)) (hO : ∀ g, O g none = 0) :
    iprop(levAts (K (F := F)).L (K (F := F)).lev ∗ emp ∗ go1 m d (wid1 L)
        ∗ scopedBufs (WT d L) ∗ scopedSems0 (WT d L) ∗ owes (WT d L) O W)
      ⊢ wp frame (wpE (defs₀ (F := F)) 𝒱₀ (WT d L) none) Set.univ
          (cc1__scan_kernel L vV (Memref.isWhole_whole _) sV (Memref.isWhole_whole _) oV (Memref.isWhole_whole _) mbV (Memref.isWhole_whole _)
            obV (Memref.isWhole_whole _) svV (Memref.isWhole_whole _) cc1_scoped0 cc1_scoped1 cc1_scoped2)
          fun _ => iprop(td1 m d (wid1 L) ∗ scopedBufs (WT d L) ∗ scopedSems0 (WT d L)
            ∗ ∃ W', ⌜∀ p ∈ W', p ∈ W ∨ p.2 = none⌝ ∗ owes (WT d L) O W') := by
  rw [(K (F := F)).scopedBufs_V hF d (cW L) (jW L), SparseCore.Cfg.scopedSems0_V (Val := Elt F) d (cW L) (jW L), sems_V1, bufs_V1]
  unfold go1 td1 sTok
  rw [cc1__scan_kernel_eq_skeleton]; unfold cc1__scan_kernel_skel
  iintro ⟨#Hlv, -, ⟨Hv, Hs, Ho⟩, ⟨⟨%fm, Hm⟩, ⟨%fo, Hob⟩, ⟨%fs, Hsv⟩, Hbufs⟩, ⟨HA, HB, HC, Hsems⟩, HO⟩
  ihave Hmw := (show levAts (K (F := F)).L (K (F := F)).lev ⊢ Transfers.MayWaits (WT d L) (default : HIx 2) O from
    (K (F := F)).mayWaits_none (thr := WT d L) hO) $$ Hlv
  ihave Hm' := (show ((WT d L).loc cc1_scratch0 ↦{fullShare} fm : sProp 𝕄) ⊢ ((mbV).view.loc (WT d L) ↦[(mbV).view.set]{fullShare} fm) from
    Entails.of_eq (by rw [View.set_whole])) $$ Hm
  ihave Hob' := (show ((WT d L).loc cc1_scratch1 ↦{fullShare} fo : sProp 𝕄) ⊢ ((obV).view.loc (WT d L) ↦[(obV).view.set]{fullShare} fo) from
    Entails.of_eq (by rw [View.set_whole])) $$ Hob
  ihave Hsv' := (show ((WT d L).loc cc1_scratch2 ↦{fullShare} fs : sProp 𝕄) ⊢ ((svV).view.loc (WT d L) ↦[(svV).view.set]{fullShare} fs) from
    Entails.of_eq (by rw [View.set_whole])) $$ Hsv
  ihave Hs' := (show (sLoc d ↦{Transfers.shareTokN fullShare (wid1 L)} Sums m d : sProp 𝕄)
      ⊢ ((sV).view.loc (WT d L) ↦[(sV).view.set]{Transfers.shareTokN fullShare (wid1 L)} Sums m d) from
    Entails.of_eq (by rw [View.set_whole])) $$ Hs
  sl_exec (disch := exact View.amount_pos _ _ (show 0 < S32x16.numel by decide))
  have hsv : ∀ x : S32x16.Idx, View.read (Elt F) (svV).view (SVB m d L) x = scan_body.sl.dma0 m d x := fun x => rfl
  ihave Hsvx := (Entails.of_eq (landed (WT d L) (svV).view fullShare _ (SVB m d L) (scan_body.sl.dma0 m d) hsv)) $$ Hsv'
  sl_for (invR m d L) $$ [Hsvx]
  case region =>
    intro k acc
    unfold invR
    iintro ⟨%hacc, Hsv⟩
    sl_exec
    sl_step
    isplitr
    · ipureintro
      exact row_step m d L k acc _ hacc (sv_read m d L k)
    · iexact Hsv
  · unfold invR
    isplitr
    · ipureintro; intro l; rw [Nat.zero_min]; rfl
    · iexact Hsvx
  iintro %acc HI
  unfold invR
  icases HI with ⟨%hacc, Hsv⟩
  have hc := carry0_eq m d L acc fun l => (hacc l).trans (by
    have hw := wid1_lt L
    have e : min (Scf.trips k1_t1_loop.lb k1_t1_loop.ub k1_t1_loop.st) (wid1 L) = wid1 L := by
      rw [show Scf.trips k1_t1_loop.lb k1_t1_loop.ub k1_t1_loop.st = 32 by decide]; omega
    rw [e])
  sl_exec
  sl_for (invC m d L O W) $$ [Hv Ho Hm' Hob' HB HC HO]
  case region =>
    intro t y
    exact chunk_trip m d L O W t y
  · unfold invC
    isplitr
    · ipureintro; exact hc
    isplitl [Hv]; · iexact Hv
    isplitl [Ho]; · rw [oPart_zero]; iexact Ho
    isplitl [Hm']; · iexists _; iexact Hm'
    isplitl [Hob']; · iexists _; iexact Hob'
    isplitl [HB]; · iexact HB
    isplitl [HC]; · iexact HC
    isplitr; · iexact Hmw
    iexists _; isplitr
    swap; · iexact HO
    ipureintro; intro p hp
    simp only [Finset.mem_insert] at hp
    rcases hp with hp | hp
    · exact .inr (hp ▸ rfl)
    · exact .inl hp
  iintro %y HI
  unfold invC
  icases HI with ⟨%hy, Hv, Ho, ⟨%fm', Hm⟩, ⟨%fo', Hob⟩, HB, HC, -, %W', %hW, HO⟩
  have h4 : Scf.trips k1_t2_loop.lb k1_t2_loop.ub k1_t2_loop.st = 4 := by decide
  ihave Ho' := (Entails.of_eq ((congrArg (oPart m d L) h4).trans (oPart_four m d L))) $$ Ho
  sl_exec
  sl_step
  isplitl [Hv Ho' Hs']
  · isplitl [Hv]; · iexact Hv
    isplitl [Hs']
    · ihave Hs := (show ((sV).view.loc (WT d L) ↦[(sV).view.set]{Transfers.shareTokN fullShare (wid1 L)} Sums m d : sProp 𝕄)
          ⊢ (sLoc d ↦{Transfers.shareTokN fullShare (wid1 L)} Sums m d) from Entails.of_eq (by rw [View.set_whole])) $$ Hs'
      iexact Hs
    iexact Ho'
  isplitl [Hm Hob Hsv Hbufs]
  · isplitl [Hm]; · rw [View.set_whole]; iexists _; iexact Hm
    isplitl [Hob]; · rw [View.set_whole]; iexists _; iexact Hob
    isplitl [Hsv]; · rw [View.set_whole]; iexists _; iexact Hsv
    iexact Hbufs
  isplitl [HA HB HC Hsems]
  · isplitl [HA]; · iexact HA
    isplitl [HB]; · iexact HB
    isplitl [HC]; · iexact HC
    iexact Hsems
  iexists _; isplitr
  swap; · iexact HO
  ipureintro; exact hW

end Tile1

end Cert.Proof.Count

end
-- ==== Proof.Launch.lean ====
/-
  The program's run: the two tile bodies as the launch theorem wants them, each call's hand-over split among its tiles, the host's
  widening of the mask and its two calls, and what every final state holds.
-/
module

public import proofs.«01_k».proof.Proof.Sums
public import proofs.«01_k».proof.Proof.Scan

@[expose] public section

noncomputable section

namespace Cert.Proof.Count

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ) (ρ : Dev nD → PrngReg)
variable [FloatOps F]

/-! ## The tiles' obligations -/

/-- A tile's grid point, by coordinate, at each call. -/
def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

theorem defs₀_sums (c : Fin τ.nSC) (s : Fin τ.nSub) :
    defs₀ (F := F) (.scVector c s) 0 ()
      = SparseCore.onTile hcore0 hsub0 (fun c s => cc0__sums_kernel (coords0 c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          cc0_scratch2 cc0_scratch3 cc0_scoped0) ⟨⟩ c s := rfl
theorem defs₀_scan (c : Fin τ.nSC) (s : Fin τ.nSub) :
    defs₀ (F := F) (.scVector c s) 1 ()
      = SparseCore.onTile hcore1 hsub1 (fun c s => cc1__scan_kernel (coords1 c s)
          (Memref.whole main_v0_scv) (Memref.isWhole_whole _) (Memref.whole main_v1_scv) (Memref.isWhole_whole _)
          (Memref.whole main_v2_scv) (Memref.isWhole_whole _) (Memref.whole cc1_scratch0) (Memref.isWhole_whole _)
          (Memref.whole cc1_scratch1) (Memref.isWhole_whole _) (Memref.whole cc1_scratch2) (Memref.isWhole_whole _)
          cc1_scoped0 cc1_scoped1 cc1_scoped2) ⟨⟩ c s := rfl

omit [FloatOps F] in
/-- A body records its waits at no call's index; the launch theorem also allows the call's own. -/
theorem post_waits {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr; · ipureintro; exact fun p hp => (hW p hp).imp_right Or.inl
  iexact HO

theorem tileObl0 (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_sums]; simp only [SparseCore.onTile, hci, and_self, ↓reduceDIte]
  exact (sums_body m d (coords0 ⟨_, hci.1⟩ ⟨_, hci.2⟩) hF O W hO).trans (wp_mono frame _ _ fun _ => post_waits)

theorem tileObl1 (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_scan]; simp only [SparseCore.onTile, hci, and_self, ↓reduceDIte]
  exact (scan_body m d (coords1 ⟨_, hci.1⟩ ⟨_, hci.2⟩) hF O W hO).trans (wp_mono frame _ _ fun _ => post_waits)

/-! ## The calls' hand-overs -/

/-- A SparseCore is handed exactly its tiles' shares, so nothing is to be split. -/
theorem vecSplit0 : (K (F := F)).VecSplit' (P m) 0 := by
  intro d c
  show (bigSep Finset.univ fun i : Fin 16 => go0 m d (tileNo c.val i.val)) ⊢ |={Set.univ}=> iprop(
    (bigSep Finset.univ fun i : Fin 16 => go0 m d (tileNo c.val i.val))
      ∗ ((bigSep Finset.univ fun i : Fin 16 => td0 m d (tileNo c.val i.val)) -∗ bigSep Finset.univ fun i : Fin 16 => td0 m d (tileNo c.val i.val)))
  iintro H; imodintro
  isplitl [H]; · iexact H
  iintro H; iexact H
theorem vecSplit1 : (K (F := F)).VecSplit' (P m) 1 := by
  intro d c
  show (bigSep Finset.univ fun i : Fin 16 => go1 m d (tileNo c.val i.val)) ⊢ |={Set.univ}=> iprop(
    (bigSep Finset.univ fun i : Fin 16 => go1 m d (tileNo c.val i.val))
      ∗ ((bigSep Finset.univ fun i : Fin 16 => td1 m d (tileNo c.val i.val)) -∗ bigSep Finset.univ fun i : Fin 16 => td1 m d (tileNo c.val i.val)))
  iintro H; imodintro
  isplitl [H]; · iexact H
  iintro H; iexact H

theorem st0_eq (d : Dev nD) : (bigSep Finset.univ fun c : Fin ((K (F := F)).nCore 0) => (P m).st 0 d c)
    = iprop((vLoc d ↦{fullShare} X m d) ∗ sLoc d ↦{fullShare} m (sLoc d)) := by
  rw [vBlks, sRows, ← bigSep_sep']; exact (bigSep_tiles (fun w => go0 m d w)).symm
theorem dn0_eq (d : Dev nD) : (bigSep Finset.univ fun c : Fin ((K (F := F)).nCore 0) => (P m).dn 0 d c)
    = iprop((vLoc d ↦{fullShare} X m d) ∗ sLoc d ↦{fullShare} Sums m d) := by
  rw [vBlks, sRows, ← bigSep_sep']; exact (bigSep_tiles (fun w => td0 m d w)).symm
theorem st1_eq (d : Dev nD) : (bigSep Finset.univ fun c : Fin ((K (F := F)).nCore 1) => (P m).st 1 d c)
    = iprop((vLoc d ↦{fullShare} X m d) ∗ (bigSep (Finset.range 32) fun w => sTok m d w) ∗ oLoc d ↦{fullShare} m (oLoc d)) := by
  rw [vBlks, oBlks, ← bigSep_sep', ← bigSep_sep']; exact (bigSep_tiles (fun w => go1 m d w)).symm
theorem dn1_eq (d : Dev nD) : (bigSep Finset.univ fun c : Fin ((K (F := F)).nCore 1) => (P m).dn 1 d c)
    = iprop((vLoc d ↦{fullShare} X m d) ∗ (bigSep (Finset.range 32) fun w => sTok m d w) ∗ oLoc d ↦{fullShare} Out m d) := by
  rw [vBlks, oBlks, ← bigSep_sep', ← bigSep_sep']; exact (bigSep_tiles (fun w => td1 m d w)).symm

theorem emps {I : Type} (s : Finset I) : (bigSep s fun _ => iprop(emp)) = (iprop(emp) : sProp 𝕄) := bigSep_emp_const s

/-! ## The launch element: the handshakes' rounds, nothing of the kernels' own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr
  · rw [emps]; iempintro
  rw [show (bigSep Finset.univ fun thr : Thread nD τ => bigSep Finset.univ fun q : Fin 2 => (P (F := F) m).x q thr) = iprop(emp) from
    (bigSep_congr fun _ _ => emps _).trans (emps _)]
  iempintro

/-! ## The host -/

abbrev x' : DevRef τ sig := Proc.devRef .tc (main_arg0 : Ref sig .tc)
abbrev v' : DevRef τ sig := Proc.devRef .tc (main_v0 : Ref sig .tc)
/-- The host's one operation: the mask widened to words. -/
abbrev opWide : HloOp τ sig (Elt F) := StableHlo.unary main_arg0 main_v0
  ((extui 32 · natLt_1_32) : (⟨S4194304, .i1⟩ : BufTy).Contents (Elt F) → (⟨S4194304, .i32⟩ : BufTy).Contents (Elt F))

theorem unscopedBufs_eq (d : Dev nD) (W : (b : Ref sig .tc) → Buf (Elt F) ((d.tc : Thread nD τ).loc b)) :
    (unscopedBufs d W : sProp 𝕄)
      = iprop((xLoc d ↦{fullShare} W main_arg0) ∗ (vLoc d ↦{fullShare} W main_v0) ∗ (sLoc d ↦{fullShare} W main_v1) ∗ oLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch's valuation. -/
def V0 (d : Dev nD) : Valuation τ sig (Elt F) := fun b => m (d, b)

theorem opBufs_eq (d : Dev nD) (W : Valuation τ sig (Elt F)) :
    (bigSep (opWide (F := F)).bufs (fun b => ((d, b) : Loc nD τ sig) ↦{fullShare} W b) : sProp 𝕄)
      = iprop((xLoc d ↦{fullShare} W x') ∗ vLoc d ↦{fullShare} W v') := by
  show (bigSep ({x', v'} : Finset (DevRef τ sig)) (fun b => ((d, b) : Loc nD τ sig) ↦{fullShare} W b) : sProp 𝕄) = _
  rw [SparseCore.bigSep_insert' (by decide), bigSep_singleton]

/-- The mask widened is the mask's numbers as words. -/
theorem wide_eq (d : Dev nD) : (opWide (F := F)).result (V0 m d) v' = X m d := by
  refine (StableHlo.unary_result _ _ _ _ _ _).trans (funext fun p => ?_)
  show ((m (xLoc d) : IVec S4194304 1) p).setWidth 32 = BitVec.ofNat 32 (bit m d (p 0).val)
  have hp : (p 0).val < 4194304 := (p 0).isLt
  have e : p = ix1 ⟨(p 0).val, hp⟩ := eq_ix1 p
  unfold bit
  rw [dif_pos hp, ← e]
  exact (BitVec.ofNat_toNat 32 _).symm

/-- What the host leaves: the mask at its launch contents, the result the clamped running count. -/
abbrev FIN (d : Dev nD) : sProp 𝕄 := iprop((xLoc d ↦{fullShare} m (xLoc d)) ∗ oLoc d ↦{fullShare} Out m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hv, Hs, Ho⟩, Hts, -⟩, -⟩
  -- the mask widened
  iapply (wp_hlo 𝒱 (SparseCore.T d) none Set.univ (op := opWide) (q := fun _ => fullShare) (F := V0 m d) (fun _ _ => rfl)) $$ [Hb Hx Hv]
  · isplitl [Hb]; · iexact Hb
    rw [opBufs_eq]
    isplitl [Hx]; · iexact Hx
    iexact Hv
  rw [opBufs_eq, wide_eq, (opWide (F := F)).result_of_not_mem (V0 m d) (b := x') (show x' ∉ ({v'} : Finset (DevRef τ sig)) by decide)]
  iintro ⟨Hb, Hx, Hv⟩
  rw [wp_ret]; imodintro
  -- the lane sums
  iapply ((K (F := F)).wp_run (D (F := F)) 𝒱 (EH := EH) (P := P m) κ d 0) $$ [Hst Hv Hs Hb Hx Ho Hts]
  isplitr; · iexact Hctx
  isplitl [Hst]; · iexact Hst
  isplitl [Hv Hs]
  · rw [st0_eq]
    isplitl [Hv]; · iexact Hv
    iexact Hs
  iintro ⟨Hst, Hdn⟩
  ihave Hdn' := (Entails.of_eq (dn0_eq m d)) $$ Hdn
  icases Hdn' with ⟨Hv, Hs⟩
  -- a reading share of them for every tile
  ihave Hs' := (Transfers.pointsTo_toks_range fullShare 32).1 $$ Hs
  icases Hs' with ⟨-, Hs⟩
  -- the count
  iapply ((K (F := F)).wp_run (D (F := F)) 𝒱 (EH := EH) (P := P m) κ d 1) $$ [Hst Hv Hs Hb Hx Ho Hts]
  isplitr; · iexact Hctx
  isplitl [Hst]; · iexact Hst
  isplitl [Hv Hs Ho]
  · rw [st1_eq]
    isplitl [Hv]; · iexact Hv
    isplitl [Hs]; · iexact Hs
    iexact Ho
  iintro ⟨Hst, Hdn⟩
  ihave Hdn' := (Entails.of_eq (dn1_eq m d)) $$ Hdn
  icases Hdn' with ⟨-, -, Ho⟩
  imodintro
  isplitl [Hst]; · iexact Hst
  isplitr [Hb Hts]
  · isplitl [Hx]; · iexact Hx
    iexact Ho
  isplitl [Hb] <;> iassumption

/-- What a device's final state shows of that. -/
def fq (d : Dev nD) (s' : Phys nD τ sig (Elt F)) : Prop := s'.mem.mem (oLoc d) = Out m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := Out m d)) $$ [HSI Ho]
  · isplitl [HSI] <;> iassumption
  icases H with %ho
  ipureintro; exact ⟨funext fun i => ho i (Finset.mem_univ i), funext fun i => hx i (Finset.mem_univ i)⟩

/-! ## The run -/

/-- On every device the result is the clamped running count and the mask is unchanged; every counter is at zero. -/
def QC : PUnit × MemSt nD τ sig (Elt F) → Prop :=
  fun r => (∀ c : Dev nD, r.2.mem (oLoc c) = Out m c ∧ r.2.mem (xLoc c) = m (xLoc c)) ∧ r.2.sem = fun _ => 0

/-- For any float values, from any memory with zero counters, every weakly fair execution ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts | 1 => tileObl1 m facts)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m) (fun _ h hz => ⟨h, hz⟩)

end Cert.Proof.Count

end
-- ==== Proof.RefValue.lean ====
/-
  What the reference computes, index by index: the running count of the mask, less one, clamped.
-/
module

public import proofs.«01_k».proof.Proof.Math
public import proofs.«01_k».proof.Proof.Gen.ReferenceIdeal
public import Idealize.ShloMosaic.Lib.Routing.Ops

@[expose] public section

noncomputable section

namespace Cert.Proof.Count

open Cert.ReferenceIdeal Cert.ReferenceIdeal.Gen
open Idealize.ShloMosaic Idealize.ShloMosaic.ValueIdx
open scoped BigOperators

/-- The reference's result as its run leaves it, of a mask `x`. -/
def refTerm (x : IVec S4194304 1) : IVec S4194304 32 :=
  minsi (broadcastInDim S4194304 ![] bcast_S_S4194304 (id (constantI S_ 32 2097151#32)))
    (maxsi (broadcastInDim S4194304 ![] bcast_S_S4194304 (id (constantI S_ 32 0#32)))
      (subi (Host.reduceWindow IntOp.addi ![4194304] ![1] ![4194303] ![0] (extui 32 x natLt_1_32)
          (broadcastInDim S_ ![] bcast_S_S_ (constantI S_ 32 0#32)) reduceWindows_S4194304_S4194304_w4194304s1p4194303_0 h_S_)
        (broadcastInDim S4194304 ![] bcast_S_S4194304 (constantI S_ 32 1#32))))

theorem list_sum_range (b : ℕ → ℕ) (n : ℕ) : ((List.range n).map b).sum = upTo b n := by
  unfold upTo
  induction n with
  | zero => rfl
  | succ k ih => rw [List.range_succ, List.map_append, List.sum_append, ih, Finset.sum_range_succ]; simp

/-- The running count. -/
theorem count_eq (x : IVec S4194304 1) (b : ℕ → ℕ) (hx : ∀ i : Fin 4194304, (x (ix1 i)).toNat = b i.val) (j : Fin 4194304) :
    Host.reduceWindow IntOp.addi ![4194304] ![1] ![4194303] ![0] (extui 32 x natLt_1_32)
        (broadcastInDim S_ ![] bcast_S_S_ (constantI S_ 32 0#32)) reduceWindows_S4194304_S4194304_w4194304s1p4194303_0 h_S_ (ix1 j)
      = BitVec.ofNat 32 (upTo b (j.val + 1)) := by
  refine (Routing.cumsum1 (N := 4194304) (Nm1 := 4194303) (by omega) (extui 32 x natLt_1_32) b (fun i => ?_) _ rfl _ _ j).trans ?_
  · show (x (ix1 i)).setWidth 32 = _
    rw [← hx i]; exact (BitVec.ofNat_toNat 32 _).symm
  · rw [list_sum_range]

theorem refTerm_eq (x : IVec S4194304 1) (b : ℕ → ℕ) (hb : ∀ j, b j ≤ 1) (hx : ∀ i : Fin 4194304, (x (ix1 i)).toNat = b i.val) (p : S4194304.Idx) :
    refTerm x p = outWord (upTo b ((p 0).val + 1)) := by
  obtain ⟨j, rfl⟩ : ∃ j : Fin 4194304, p = ix1 j := ⟨p 0, eq_ix1 p⟩
  have hj := j.isLt
  have hle : upTo b (j.val + 1) ≤ 4194304 := (upTo_le b hb _).trans (by omega)
  refine Eq.trans ?_ (clamp_host _ hle)
  show IntOp.minsi 2097151#32 (IntOp.maxsi 0#32 (Host.reduceWindow IntOp.addi ![4194304] ![1] ![4194303] ![0] (extui 32 x natLt_1_32)
        (broadcastInDim S_ ![] bcast_S_S_ (constantI S_ 32 0#32)) reduceWindows_S4194304_S4194304_w4194304s1p4194303_0 h_S_ (ix1 j) - 1#32)) = _
  rw [count_eq x b hx]

end Cert.Proof.Count

end
-- ==== Proof.lean ====
/-
  The certificate's claim: both frames of the kernel from the one run, the references' frames, and the value of the kernel's result,
  which is the reference's at every index.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem Cert.Proof.Count

/-- The printed kernel's frame and the idealized kernel's, both from the one run over any float values. -/
theorem frame_kernel : Cert.quiescent_Kernel := fun m ρ _ =>
  (θ_run Cert.KernelIdeal.defs _ _).mono (fun _ h => ⟨fun c => (h.1 c).2, h.2⟩) (run_main (F := Bits) m ρ)
theorem frame_kernelIdeal : Cert.quiescent_KernelIdeal := fun m ρ _ =>
  (θ_run Cert.KernelIdeal.defs _ _).mono (fun _ h => ⟨fun c => (h.1 c).2, h.2⟩) (run_main (F := Ideal) m ρ)

/-- The references' frames: their runs read at the argument; they declare no counter. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result of the kernel's mask is what the kernel leaves. -/
theorem out_eq {F : FTy → Type} (m : (ℓ : Loc Cert.KernelIdeal.nD Cert.KernelIdeal.τ Cert.KernelIdeal.sig) → Buf (Elt F) ℓ) (d : Dev Cert.KernelIdeal.nD) :
    refTerm (m (xLoc d)) = Out m d := by
  refine funext fun p => refTerm_eq (m (xLoc d)) (bit m d) (bit_le m d) (fun i => ?_) p
  unfold bit
  rw [dif_pos i.isLt]

theorem value_ideal : Cert.algebraic_KernelIdeal_ReferenceIdeal := fun m ρ m' ρ' _ hagree =>
  ⟨fun c => Out m c,
    (θ_run Cert.KernelIdeal.defs _ _).mono (fun _ h => h.1) (run_main (F := Ideal) m ρ),
    (θ_run Cert.ReferenceIdeal.defs _ _).mono (fun _ h c => ⟨(h c).1.trans ((congrArg refTerm (hagree c)).trans (out_eq m c)), (h c).2⟩)
      (Cert.ReferenceIdeal.Value.run (F := Ideal) m' ρ')⟩

theorem value_bits : Cert.bitexact_Kernel_Reference := fun m ρ m' ρ' _ hagree =>
  ⟨fun c => Out (F := Bits) m c,
    (θ_run Cert.KernelIdeal.defs _ _).mono (fun _ h => h.1) (run_main (F := Bits) m ρ),
    (θ_run Cert.Reference.defs _ _).mono (fun _ h c => ⟨(h c).1.trans ((congrArg refTerm (hagree c)).trans (out_eq (F := Bits) m c)), (h c).2⟩)
      (Cert.Reference.Value.run (F := Bits) m' ρ')⟩

theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, value_ideal, value_bits⟩

end Cert.Proof

end
